-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_in_range [hPre_weights_in_range : Cert.Pre_weights_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_weights_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_in_range [hPre_weights_in_range : Cert.Pre_weights_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_weights_in_range [hKernelIdeal : Cert.KernelIdeal.Facts] [hPre_weights_in_range : Cert.Pre_weights_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_weights_in_range [hReferenceIdeal : Cert.ReferenceIdeal.Facts] [hPre_weights_in_range : Cert.Pre_weights_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_weights_in_range [hKernelIdeal : Cert.KernelIdeal.Facts] [hReferenceIdeal : Cert.ReferenceIdeal.Facts] [hPre_weights_in_range : Cert.Pre_weights_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v2_2)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v2_2) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v0_0) = v3 c
          ∧ r.2.mem ((c.tc : Thread Cert.ReferenceIdeal.nD Cert.ReferenceIdeal.τ).loc Cert.ReferenceIdeal.main_v6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_weights_in_range : Cert.Pre_weights_in_range.Facts),
    quiescent_Kernel (hKernel := hKernel)
    ∧ quiescent_KernelIdeal (hKernelIdeal := hKernelIdeal)
    ∧ quiescent_KernelIdeal_pre_weights_in_range (hKernelIdeal := hKernelIdeal) (hPre_weights_in_range := hPre_weights_in_range)
    ∧ quiescent_ReferenceIdeal (hReferenceIdeal := hReferenceIdeal)
    ∧ quiescent_ReferenceIdeal_pre_weights_in_range (hReferenceIdeal := hReferenceIdeal) (hPre_weights_in_range := hPre_weights_in_range)
    ∧ preserves_Kernel_KernelIdeal
    ∧ algebraic_KernelIdeal_ReferenceIdeal_pre_weights_in_range (hKernelIdeal := hKernelIdeal) (hReferenceIdeal := hReferenceIdeal) (hPre_weights_in_range := hPre_weights_in_range)
-- ==== Pre_weights_in_range.lean ====
abbrev S1x3072x3584 : Shape := ⟨3, ![1, 3072, 3584]⟩
abbrev S8192x3584 : Shape := ⟨2, ![8192, 3584]⟩
abbrev S1x3072x8192 : Shape := ⟨3, ![1, 3072, 8192]⟩
abbrev S_ : Shape := ⟨0, ![]⟩

class Facts : Prop where
  bcast_S_S8192x3584 : S_.BroadcastsInDim S8192x3584 (![] : Fin 0 → Fin S8192x3584.rank)

variable [Facts]

def fn {F : FTy → Type} [FloatOps F] (main_arg0 : FVec F S1x3072x3584 .bf16) (main_arg1 : FVec F S8192x3584 .f32) (main_arg2 : FVec F S1x3072x8192 .bf16) : IVec S8192x3584 1 :=
  let main_v0 : FVec F S8192x3584 .f32 := Host.absf main_arg1
  let main_cst : FVec F S_ .f32 := constant S_ .f32 0x7F7FFFFF#32
  let main_v1 : FVec F S8192x3584 .f32 := broadcastInDim S8192x3584 ![] bcast_S_S8192x3584 main_cst
  let main_v2 : IVec S8192x3584 1 := cmpf .ole main_v0 main_v1
  let main_cst_0 : FVec F S_ .f32 := constant S_ .f32 0x7F800000#32
  let main_v3 : FVec F S8192x3584 .f32 := broadcastInDim S8192x3584 ![] bcast_S_S8192x3584 main_cst_0
  let main_v4 : IVec S8192x3584 1 := cmpf .oeq main_v0 main_v3
  let main_v5 : IVec S8192x3584 1 := ori main_v2 main_v4
  main_v5
-- ==== Kernel.lean ====
abbrev S1x3072x3584 : Shape := ⟨3, ![1, 3072, 3584]⟩
abbrev S8192x3584 : Shape := ⟨2, ![8192, 3584]⟩
abbrev S1x3072x8192 : Shape := ⟨3, ![1, 3072, 8192]⟩
abbrev S3072x3584 : Shape := ⟨2, ![3072, 3584]⟩
abbrev S3072x8192 : Shape := ⟨2, ![3072, 8192]⟩
abbrev S1x8192 : Shape := ⟨2, ![1, 8192]⟩
abbrev S256x3584 : Shape := ⟨2, ![256, 3584]⟩
abbrev S3072x256 : Shape := ⟨2, ![3072, 256]⟩
abbrev S1x256 : Shape := ⟨2, ![1, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1024x8192 : Shape := ⟨2, ![1024, 8192]⟩
abbrev S8192x512 : Shape := ⟨2, ![8192, 512]⟩
abbrev S1024x512 : Shape := ⟨2, ![1024, 512]⟩
abbrev S8192 : Shape := ⟨1, ![8192]⟩

abbrev nBuf : Space → Nat
  | .hbm => 14
  | .vmem => 21
  | .smem => 0
  | _ => 0

abbrev bufTy : (tb : Table) → Fin (tcTables nBuf tb) → BufTy
  | .hbm, ⟨0, _⟩ => ⟨S1x3072x3584, .bf16⟩
  | .hbm, ⟨1, _⟩ => ⟨S8192x3584, .f32⟩
  | .hbm, ⟨2, _⟩ => ⟨S1x3072x8192, .bf16⟩
  | .hbm, ⟨3, _⟩ => ⟨S3072x3584, .bf16⟩
  | .hbm, ⟨4, _⟩ => ⟨S3072x8192, .bf16⟩
  | .hbm, ⟨5, _⟩ => ⟨S3072x8192, .bf16⟩
  | .hbm, ⟨6, _⟩ => ⟨S8192x3584, .f32⟩
  | .hbm, ⟨7, _⟩ => ⟨S8192x3584, .fp8e4m3⟩
  | .hbm, ⟨8, _⟩ => ⟨S1x8192, .f32⟩
  | .hbm, ⟨9, _⟩ => ⟨S8192x3584, .bf16⟩
  | .hbm, ⟨10, _⟩ => ⟨S3072x3584, .bf16⟩
  | .hbm, ⟨11, _⟩ => ⟨S1x3072x8192, .bf16⟩
  | .hbm, ⟨12, _⟩ => ⟨S1x3072x3584, .bf16⟩
  | .hbm, ⟨13, _⟩ => ⟨S8192, .f32⟩
  | .local _ .vmem, ⟨0, _⟩ => ⟨S3072x3584, .bf16⟩
  | .local _ .vmem, ⟨1, _⟩ => ⟨S256x3584, .f32⟩
  | .local _ .vmem, ⟨2, _⟩ => ⟨S256x3584, .f32⟩
  | .local _ .vmem, ⟨3, _⟩ => ⟨S3072x256, .bf16⟩
  | .local _ .vmem, ⟨4, _⟩ => ⟨S3072x256, .bf16⟩
  | .local _ .vmem, ⟨5, _⟩ => ⟨S3072x256, .bf16⟩
  | .local _ .vmem, ⟨6, _⟩ => ⟨S3072x256, .bf16⟩
  | .local _ .vmem, ⟨7, _⟩ => ⟨S256x3584, .f32⟩
  | .local _ .vmem, ⟨8, _⟩ => ⟨S256x3584, .f32⟩
  | .local _ .vmem, ⟨9, _⟩ => ⟨S256x3584, .fp8e4m3⟩
  | .local _ .vmem, ⟨10, _⟩ => ⟨S256x3584, .fp8e4m3⟩
  | .local _ .vmem, ⟨11, _⟩ => ⟨S1x256, .f32⟩
  | .local _ .vmem, ⟨12, _⟩ => ⟨S1x256, .f32⟩
  | .local _ .vmem, ⟨13, _⟩ => ⟨S256x3584, .bf16⟩
  | .local _ .vmem, ⟨14, _⟩ => ⟨S256x3584, .bf16⟩
  | .local _ .vmem, ⟨15, _⟩ => ⟨S1024x8192, .bf16⟩
  | .local _ .vmem, ⟨16, _⟩ => ⟨S1024x8192, .bf16⟩
  | .local _ .vmem, ⟨17, _⟩ => ⟨S8192x512, .bf16⟩
  | .local _ .vmem, ⟨18, _⟩ => ⟨S8192x512, .bf16⟩
  | .local _ .vmem, ⟨19, _⟩ => ⟨S1024x512, .bf16⟩
  | .local _ .vmem, ⟨20, _⟩ => ⟨S1024x512, .bf16⟩
  | _, _ => ⟨S1x3072x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3072x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3072x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3584 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![3, 7], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8192x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S1x3072x3584 : Shape := ⟨3, ![1, 3072, 3584]⟩
abbrev S8192x3584 : Shape := ⟨2, ![8192, 3584]⟩
abbrev S1x3072x8192 : Shape := ⟨3, ![1, 3072, 8192]⟩
abbrev S8192x1 : Shape := ⟨2, ![8192, 1]⟩
abbrev S8192 : Shape := ⟨1, ![8192]⟩

abbrev nBuf : Space → Nat
  | .hbm => 12
  | .vmem => 4
  | .smem => 0
  | _ => 0

abbrev bufTy : (tb : Table) → Fin (tcTables nBuf tb) → BufTy
  | .hbm, ⟨0, _⟩ => ⟨S1x3072x3584, .bf16⟩
  | .hbm, ⟨1, _⟩ => ⟨S8192x3584, .f32⟩
  | .hbm, ⟨2, _⟩ => ⟨S1x3072x8192, .bf16⟩
  | .hbm, ⟨3, _⟩ => ⟨S8192x3584, .fp8e4m3⟩
  | .hbm, ⟨4, _⟩ => ⟨S8192x1, .f32⟩
  | .hbm, ⟨5, _⟩ => ⟨S8192x3584, .bf16⟩
  | .hbm, ⟨6, _⟩ => ⟨S1x3072x8192, .f32⟩
  | .hbm, ⟨7, _⟩ => ⟨S1x3072x8192, .bf16⟩
  | .hbm, ⟨8, _⟩ => ⟨S1x3072x3584, .f32⟩
  | .hbm, ⟨9, _⟩ => ⟨S1x3072x3584, .bf16⟩
  | .hbm, ⟨10, _⟩ => ⟨S8192x3584, .f32⟩
  | .hbm, ⟨11, _⟩ => ⟨S8192, .f32⟩
  | .local _ .vmem, ⟨0, _⟩ => ⟨S8192x3584, .f32⟩
  | .local _ .vmem, ⟨1, _⟩ => ⟨S8192x3584, .fp8e4m3⟩
  | .local _ .vmem, ⟨2, _⟩ => ⟨S8192x1, .f32⟩
  | .local _ .vmem, ⟨3, _⟩ => ⟨S8192x3584, .bf16⟩
  | _, _ => ⟨S1x3072x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8192x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelRun.lean ====
/-
  The idealized kernel's run: from any memory it terminates, and every buffer of the program ends at the
  contents the generated boundary valuations give it. The five results are then read through them: each is
  an output array of one of the two pallas_calls, or the reshape of one.
-/
module

public import proofs.«01_k».proof.Proof.Gen.KernelIdeal.Frame
public import Idealize.ShloMosaic.Adequacy
public import Idealize.ShloMosaic.Init

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- Every weakly fair execution of the kernel terminates without a fault, and leaves every buffer of the
    program that outlives it at the last boundary valuation `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-! ## The arrays the two calls read and write -/

/-- The first call reads `x` as a matrix, -/
theorem V1_x (c : Dev nD) : V1 m ρ c main_v0
    = shapeCast S3072x3584 (m ((c : Thread nD τ).loc main_arg0)) shapeCasts_S1x3072x3584_S3072x3584 := by
  show StableHlo.after hostOps0 (W0 m ρ c) (Proc.devRef .tc main_v0) = _
  after_results
  rfl

/-- the weights as they are, -/
theorem V1_w (c : Dev nD) : V1 m ρ c main_arg1 = m ((c : Thread nD τ).loc main_arg1) :=
  W1_args m ρ c main_arg1 (by decide)

/-- and `g` as a matrix. -/
theorem V1_g (c : Dev nD) : V1 m ρ c main_v1
    = shapeCast S3072x8192 (m ((c : Thread nD τ).loc main_arg2)) shapeCasts_S1x3072x8192_S3072x8192 := by
  show StableHlo.after hostOps0 (W0 m ρ c) (Proc.devRef .tc main_v1) = _
  after_results
  rfl

/-- The second call reads the same matrix `g` -/
theorem V2_g (c : Dev nD) : V2 m ρ c main_v1 = V1 m ρ c main_v1 :=
  W2_of m ρ c main_v1 (by decide)

/-- and the weights the first call left dequantised (its window 7). -/
theorem V2_wq (c : Dev nD) : V2 m ρ c main_v2_4 = (dat0 (V1 m ρ) c).arrAt 7 cfg0.N :=
  W2_arr m ρ c 7

/-- The result `y` is the reshape of the first call's window 3; -/
theorem W4_y (c : Dev nD) : W4 m ρ c (Proc.devRef .tc main_v4)
    = shapeCast S1x3072x8192 ((dat0 (V1 m ρ) c).arrAt 3 cfg0.N) shapeCasts_S3072x8192_S1x3072x8192 := by
  show StableHlo.after hostOps2 (W3 m ρ c) (Proc.devRef .tc main_v4) = _
  after_results
  rw [W3_of m ρ c main_v2_0 (by decide)]
  exact congrArg (fun a => shapeCast S1x3072x8192 a shapeCasts_S3072x8192_S1x3072x8192) (W2_arr m ρ c 3)

/-- the result `dx` is the reshape of the second call's window 2; -/
theorem W4_dx (c : Dev nD) : W4 m ρ c (Proc.devRef .tc main_v5)
    = shapeCast S1x3072x3584 ((dat1 (V2 m ρ) c).arrAt 2 cfg1.N) shapeCasts_S3072x3584_S1x3072x3584 := by
  show StableHlo.after hostOps2 (W3 m ρ c) (Proc.devRef .tc main_v5) = _
  after_results
  exact congrArg (fun a => shapeCast S1x3072x3584 a shapeCasts_S3072x3584_S1x3072x3584) (W3_arr m ρ c 2)

/-- the result `dw` is the first call's window 4; -/
theorem W4_dw (c : Dev nD) : W4 m ρ c (Proc.devRef .tc main_v2_1) = (dat0 (V1 m ρ) c).arrAt 4 cfg0.N :=
  (W4_of m ρ c main_v2_1 (by decide)).trans ((W3_of m ρ c main_v2_1 (by decide)).trans (W2_arr m ρ c 4))

/-- the codes are its window 5; -/
theorem W4_codes (c : Dev nD) : W4 m ρ c (Proc.devRef .tc main_v2_2) = (dat0 (V1 m ρ) c).arrAt 5 cfg0.N :=
  (W4_of m ρ c main_v2_2 (by decide)).trans ((W3_of m ρ c main_v2_2 (by decide)).trans (W2_arr m ρ c 5))

/-- the row scales are the reshape of its window 6. -/
theorem W4_scale (c : Dev nD) : W4 m ρ c (Proc.devRef .tc main_v6)
    = shapeCast S8192 ((dat0 (V1 m ρ) c).arrAt 6 cfg0.N) shapeCasts_S1x8192_S8192 := by
  show StableHlo.after hostOps2 (W3 m ρ c) (Proc.devRef .tc main_v6) = _
  after_results
  rw [W3_of m ρ c main_v2_3 (by decide)]
  exact congrArg (fun a => shapeCast S8192 a shapeCasts_S1x8192_S8192) (W2_arr m ρ c 6)

end Cert.KernelIdeal.Run

end
-- ==== Proof.Scale.lean ====
/-
  The row scale over the extended reals, with no program in sight. The kernel finds the exponent field of a
  value by a search from the top bit down, comparing the value with powers of two that it writes as words; it
  makes the scale and its inverse as words too. The reference takes the floor of a logarithm and a power of
  two. This module shows that the two are the same number.
-/
module

public import Idealize.ShloMosaic.PureOps.Ideal.Laws
public import Idealize.ShloMosaic.Lib.IdealHost

@[expose] public section

noncomputable section

namespace Cert.Scale

open Idealize.ShloMosaic

/-- The number that the word `n << 23` denotes: the f32 whose exponent field is `n`. -/
def word (n : BitVec 32) : EReal := Ideal.ofBits .f32 (IntOp.shli .vector n 23#32)

/-- One step of the search: the bit `b` is put into the field when the value is at least the power so named. -/
def step (v : EReal) (n b : BitVec 32) : BitVec 32 :=
  Scalar.select (Ideal.cmp .oge v (word (IntOp.addi n b))) (IntOp.addi n b) n

/-- The exponent field of `v`, as the kernel finds it. -/
def field (v : EReal) : BitVec 32 :=
  step v (step v (step v (step v (step v (step v (step v (step v 0#32 128#32) 64#32) 32#32) 16#32) 8#32) 4#32) 2#32) 1#32

/-- The scale's exponent from the field: `field - 126`, or `0` at the two fields that are no normal number's. -/
def expo (n : BitVec 32) : BitVec 32 :=
  Scalar.select (IntOp.ori (IntOp.cmpi .eq n 0#32) (IntOp.cmpi .eq n 255#32)) 0#32 (IntOp.subi n 126#32)

/-- The kernel's scale for the value `v`, -/
def scale (v : EReal) : EReal := word (IntOp.addi (expo (field v)) 127#32)

/-- and its inverse. -/
def inv (v : EReal) : EReal := word (IntOp.addi (IntOp.subi 0#32 (expo (field v))) 127#32)

/-- The reference's exponent for the value `v`: for a normal finite `v`, `⌊log₂ v⌋ + 1`; else `0`. -/
def refExpo (v : EReal) : EReal :=
  Scalar.select (IntOp.andi (Ideal.cmp .oge v (Ideal.ofBits .f32 0x00800000#32)) (Ideal.cmp .olt v (Ideal.ofBits .f32 0x7F800000#32)))
    (Ideal.liftRound Int.floor (Ideal.div (Ideal.log v) (Ideal.log (Ideal.ofBits .f32 0x40000000#32))) + Ideal.ofBits .f32 0x3F800000#32)
    (Ideal.ofBits .f32 0x00000000#32)

/-- The reference's scale, -/
def refScale (v : EReal) : EReal := Ideal.exp2 (refExpo v)

/-- and its inverse. -/
def refInv (v : EReal) : EReal := Ideal.exp2 (Ideal.ofBits .f32 0x00000000#32 - refExpo v)

/-! ## The words -/

/-- The three parts of the word `n << 23` for a field `n`: no sign, exponent `n`, no fraction. -/
theorem parts : ∀ n : Fin 256,
    ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by
  decide +kernel

/-- The number a word of given exponent field denotes, when it has no sign and no fraction. -/
theorem ieee_of_parts (b : BitVec 32) (n : ℕ) (hs : (b.extractLsb' 31 1 == 1#1) = false) (he : (b.extractLsb' 23 8).toNat = n)
    (hf : (b.extractLsb' 0 23).toNat = 0) (h1 : 1 ≤ n) :
    Ideal.ieee 8 23 b = if n = 255 then ⊤ else (((2 : ℝ) ^ ((n : ℤ) - 127) : ℝ) : EReal) := by
  have hz : (2 : ℝ) ^ ((n : ℤ) - 127 - 23) * 2 ^ 23 = 2 ^ ((n : ℤ) - 127) := by
    rw [← zpow_natCast, ← zpow_add₀ two_ne_zero]; norm_num
  by_cases hn : n = 255
  · subst hn; simp [Ideal.ieee, hs, he, hf]
  · have h0 : n ≠ 0 := by omega
    simp only [Ideal.ieee, hs, he, hf]
    rw [if_neg (by norm_num; exact hn), if_neg h0, if_neg hn, ← hz]
    congr 1
    rw [show ((n : ℤ) - (2 ^ (8 - 1) - 1) - ((23 : ℕ) : ℤ)) = (n : ℤ) - 127 - 23 by norm_num]
    norm_num
    ring

/-- A normal field names a power of two, -/
theorem word_normal (n : ℕ) (h1 : 1 ≤ n) (h2 : n ≤ 254) :
    word (BitVec.ofNat 32 n) = (((2 : ℝ) ^ ((n : ℤ) - 127) : ℝ) : EReal) := by
  obtain ⟨hs, he, hf⟩ := parts ⟨n, by omega⟩
  exact (ieee_of_parts _ n hs he hf h1).trans (if_neg (by omega))

/-- the greatest one infinity, -/
theorem word_top : word 255#32 = ⊤ := by
  obtain ⟨hs, he, hf⟩ := parts ⟨255, by omega⟩
  exact (ieee_of_parts _ 255 hs he hf (by omega)).trans (if_pos rfl)

/-- and a constant of the programs is the number its field names. -/
theorem ofBits_eq_word (n : ℕ) (b : BitVec 32) (h : IntOp.shli .vector (BitVec.ofNat 32 n) 23#32 = b := by decide) :
    Ideal.ofBits .f32 b = word (BitVec.ofNat 32 n) := by
  subst h; rfl

/-! ## The search -/

/-- What holds after the bits of weight `w` and above have been tried: the field found is at most the value,
    the field `w` further on is not. -/
def Found (v : EReal) (n w : ℕ) : Prop :=
  (n = 0 ∨ word (BitVec.ofNat 32 n) ≤ v) ∧ n + w ≤ 256 ∧ (n + w = 256 ∨ v < word (BitVec.ofNat 32 (n + w)))

/-- One step halves the distance. -/
theorem step_found (v : EReal) (n w : ℕ) (h : Found v n (w + w)) :
    ∃ n' : ℕ, step v (BitVec.ofNat 32 n) (BitVec.ofNat 32 w) = BitVec.ofNat 32 n' ∧ Found v n' w := by
  obtain ⟨hl, hb, hu⟩ := h
  have ha : IntOp.addi (BitVec.ofNat 32 n) (BitVec.ofNat 32 w) = BitVec.ofNat 32 (n + w) :=
    (BitVec.ofNat_add n w).symm
  by_cases hc : word (BitVec.ofNat 32 (n + w)) ≤ v
  · refine ⟨n + w, ?_, .inr hc, by omega, ?_⟩
    · simp [step, ha, Ideal.cmp, Scalar.select, hc]
    · rw [Nat.add_assoc]; exact hu
  · refine ⟨n, ?_, hl, by omega, .inr (not_le.mp hc)⟩
    simp [step, ha, Ideal.cmp, Scalar.select, hc]

/-- The whole search: the field found is at most the value, the next one is not. -/
theorem field_found (v : EReal) : ∃ n : ℕ, field v = BitVec.ofNat 32 n ∧ Found v n 1 := by
  obtain ⟨n₁, e₁, f₁⟩ := step_found v 0 128 ⟨.inl rfl, by norm_num, .inl rfl⟩
  obtain ⟨n₂, e₂, f₂⟩ := step_found v n₁ 64 f₁
  obtain ⟨n₃, e₃, f₃⟩ := step_found v n₂ 32 f₂
  obtain ⟨n₄, e₄, f₄⟩ := step_found v n₃ 16 f₃
  obtain ⟨n₅, e₅, f₅⟩ := step_found v n₄ 8 f₄
  obtain ⟨n₆, e₆, f₆⟩ := step_found v n₅ 4 f₅
  obtain ⟨n₇, e₇, f₇⟩ := step_found v n₆ 2 f₆
  obtain ⟨n₈, e₈, f₈⟩ := step_found v n₇ 1 f₇
  refine ⟨n₈, ?_, f₈⟩
  unfold field
  rw [e₁, e₂, e₃, e₄, e₅, e₆, e₇, e₈]

/-! ## Exponents, scales, inverses -/

/-- The fields of the scale and of its inverse at a normal field `n`: `n + 1` and `253 - n`. -/
theorem fields : ∀ n : Fin 253, 1 ≤ n.val →
    IntOp.addi (expo (BitVec.ofNat 32 n.val)) 127#32 = BitVec.ofNat 32 (n.val + 1)
    ∧ IntOp.addi (IntOp.subi 0#32 (expo (BitVec.ofNat 32 n.val))) 127#32 = BitVec.ofNat 32 (253 - n.val) := by
  decide +kernel

/-- The floor of the logarithm of a value between two consecutive powers of two. -/
theorem floor_log (r : ℝ) (k : ℤ) (h1 : (2 : ℝ) ^ k ≤ r) (h2 : r < (2 : ℝ) ^ (k + 1)) :
    ⌊Real.log r / Real.log 2⌋ = k := by
  have hp : (0 : ℝ) < 2 ^ k := by positivity
  have hr : 0 < r := lt_of_lt_of_le hp h1
  have hl : 0 < Real.log 2 := Real.log_pos (by norm_num)
  rw [Int.floor_eq_iff, le_div_iff₀ hl, div_lt_iff₀ hl]
  constructor
  · rw [← Real.log_zpow]; exact Real.log_le_log hp h1
  · have : ((k : ℝ) + 1) * Real.log 2 = Real.log ((2 : ℝ) ^ (k + 1)) := by rw [Real.log_zpow]; push_cast; rfl
    rw [this]; exact Real.log_lt_log hr h2

/-- The reference's exponent of a value that is no normal finite number is `0`. -/
theorem refExpo_special (v : EReal) (h : v < word 1#32 ∨ v = ⊤) : refExpo v = 0 := by
  unfold refExpo
  rw [ofBits_eq_word 1 0x00800000#32, ofBits_eq_word 255 0x7F800000#32, show word (BitVec.ofNat 32 255) = ⊤ from word_top,
    show Ideal.ofBits .f32 0x00000000#32 = (0 : EReal) from Ideal.ofBits_zero_f32]
  rcases h with h | h
  · have : ¬ word (BitVec.ofNat 32 1) ≤ v := not_le.mpr h
    simp [Ideal.cmp, this, Scalar.select, IntOp.andi]
  · subst h
    simp [Ideal.cmp, Scalar.select, IntOp.andi]

/-- The reference's exponent of a value between the powers of two that fields `n` and `n + 1` name. -/
theorem refExpo_normal (v : EReal) (n : ℕ) (h1 : 1 ≤ n) (h2 : n ≤ 252)
    (hl : word (BitVec.ofNat 32 n) ≤ v) (hu : v < word (BitVec.ofNat 32 (n + 1))) :
    refExpo v = (((n : ℤ) - 126 : ℤ) : ℝ) := by
  rw [word_normal n h1 (by omega)] at hl
  rw [word_normal (n + 1) (by omega) (by omega)] at hu
  have hv : ∃ r : ℝ, v = (r : EReal) := by
    induction v with
    | bot => simp at hl
    | top => simp at hu
    | coe r => exact ⟨r, rfl⟩
  obtain ⟨r, rfl⟩ := hv
  have hl' : (2 : ℝ) ^ ((n : ℤ) - 127) ≤ r := EReal.coe_le_coe_iff.mp hl
  have hu' : r < (2 : ℝ) ^ ((n : ℤ) - 127 + 1) := by
    have := EReal.coe_lt_coe_iff.mp hu
    rwa [show (((n + 1 : ℕ) : ℤ) - 127) = (n : ℤ) - 127 + 1 by push_cast; ring] at this
  have hr : 0 < r := lt_of_lt_of_le (by positivity) hl'
  have hmin : word (BitVec.ofNat 32 1) ≤ (r : EReal) := by
    rw [word_normal 1 le_rfl (by omega)]
    refine EReal.coe_le_coe_iff.mpr (le_trans ?_ hl')
    exact zpow_le_zpow_right₀ (by norm_num) (by push_cast; omega)
  unfold refExpo
  rw [ofBits_eq_word 1 0x00800000#32, ofBits_eq_word 255 0x7F800000#32, show word (BitVec.ofNat 32 255) = ⊤ from word_top,
    ofBits_eq_word 128 0x40000000#32, ofBits_eq_word 127 0x3F800000#32, word_normal 128 (by omega) (by omega),
    word_normal 127 (by omega) (by omega)]
  have hl2 : Real.log 2 ≠ 0 := (Real.log_pos (by norm_num)).ne'
  have e1 : Ideal.log (r : EReal) = (Real.log r : EReal) := if_neg (not_le.mpr hr)
  have e2 : Ideal.log (((2 : ℝ) ^ (((128 : ℕ) : ℤ) - 127) : ℝ) : EReal) = (Real.log 2 : EReal) := by
    rw [show (((128 : ℕ) : ℤ) - 127) = 1 by norm_num, zpow_one]
    exact if_neg (by norm_num)
  have e3 : Ideal.div (Real.log r : EReal) (Real.log 2 : EReal) = ((Real.log r / Real.log 2 : ℝ) : EReal) := by
    rw [Ideal.div, if_neg (by exact_mod_cast hl2), ← EReal.coe_inv, ← EReal.coe_mul, div_eq_mul_inv]
  rw [e1, e2, e3]
  have e4 : Ideal.liftRound Int.floor ((Real.log r / Real.log 2 : ℝ) : EReal) = ((((n : ℤ) - 127 : ℤ) : ℝ) : EReal) := by
    show (((⌊Real.log r / Real.log 2⌋ : ℤ) : ℝ) : EReal) = _
    rw [floor_log r _ hl' hu']
  rw [e4]
  have hc : IntOp.andi (Ideal.cmp .oge (r : EReal) (word (BitVec.ofNat 32 1))) (Ideal.cmp .olt (r : EReal) ⊤) = 1#1 := by
    simp [Ideal.cmp, hmin, IntOp.andi]
  rw [hc]
  rw [show ∀ a b : EReal, Scalar.select 1#1 a b = a from fun _ _ => if_pos rfl, ← EReal.coe_add]
  congr 1
  norm_num
  ring

/-- THE SCALES AGREE: at every value below `2^126`, and at infinity, the kernel's scale and inverse are the
    reference's. -/
theorem scale_inv_eq (v : EReal) (h : v < word 253#32 ∨ v = ⊤) : scale v = refScale v ∧ inv v = refInv v := by
  have h0 : Ideal.ofBits .f32 0x00000000#32 = (0 : EReal) := Ideal.ofBits_zero_f32
  have hone : Ideal.exp2 0 = 1 := by
    show ((Real.rpow 2 0 : ℝ) : EReal) = 1
    rw [show Real.rpow 2 0 = 1 from Real.rpow_zero 2]; rfl
  have hw : word 127#32 = 1 := (word_normal 127 (by omega) (by omega)).trans (by norm_num)
  obtain ⟨n, hn, hl, hb, hu⟩ := field_found v
  have hspecial : (v < word 1#32 ∨ v = ⊤) → expo (field v) = 0#32 → scale v = refScale v ∧ inv v = refInv v := by
    intro hs he
    refine ⟨?_, ?_⟩
    · rw [scale, refScale, he, refExpo_special v hs, hone]; exact hw
    · rw [inv, refInv, he, refExpo_special v hs, h0, sub_zero, hone]; exact hw
  by_cases hn0 : n = 0
  · subst hn0
    exact hspecial (.inl (hu.resolve_left (by omega))) (by rw [hn]; rfl)
  have hl := hl.resolve_left hn0
  by_cases hn255 : n = 255
  · subst hn255
    refine hspecial (.inr ?_) (by rw [hn]; rfl)
    rw [show word (BitVec.ofNat 32 255) = ⊤ from word_top] at hl
    exact top_le_iff.mp hl
  have hle : n ≤ 252 := by
    by_contra hgt
    have hbig : word 253#32 ≤ v := by
      refine le_trans ?_ hl
      rw [show (253#32 : BitVec 32) = BitVec.ofNat 32 253 from rfl, word_normal 253 (by omega) (by omega), word_normal n (by omega) (by omega)]
      exact EReal.coe_le_coe_iff.mpr (zpow_le_zpow_right₀ (by norm_num) (by omega))
    rcases h with h | h
    · exact absurd h (not_lt.mpr hbig)
    · subst h
      rcases hu with hu | hu
      · omega
      · exact absurd hu not_top_lt
  have hu := hu.resolve_left (by omega)
  obtain ⟨f1, f2⟩ := fields ⟨n, by omega⟩ (by show 1 ≤ n; omega)
  dsimp only at f1 f2
  have hx := refExpo_normal v n (by omega) hle hl hu
  refine ⟨?_, ?_⟩
  · rw [scale, refScale, hn, f1, hx, word_normal (n + 1) (by omega) (by omega)]
    show _ = ((Real.rpow 2 (((n : ℤ) - 126 : ℤ) : ℝ) : ℝ) : EReal)
    rw [show Real.rpow 2 (((n : ℤ) - 126 : ℤ) : ℝ) = (2 : ℝ) ^ ((n : ℤ) - 126) from Real.rpow_intCast 2 _]
    congr 2; push_cast; ring
  · rw [inv, refInv, hn, f2, hx, h0, zero_sub, word_normal (253 - n) (by omega) (by omega), ← EReal.coe_neg]
    show _ = ((Real.rpow 2 (-(((n : ℤ) - 126 : ℤ) : ℝ)) : ℝ) : EReal)
    rw [show (-(((n : ℤ) - 126 : ℤ) : ℝ)) = ((-((n : ℤ) - 126) : ℤ) : ℝ) by push_cast; ring,
      show Real.rpow 2 ((-((n : ℤ) - 126) : ℤ) : ℝ) = (2 : ℝ) ^ (-((n : ℤ) - 126)) from Real.rpow_intCast 2 _]
    congr 2; rw [Nat.cast_sub (by omega)]; push_cast; ring

end Cert.Scale

end
-- ==== Proof.Rows.lean ====
/-
  Vector expressions over columns, at any number of rows: what a row's maximum, a column spread over a row and
  one step of the field search read at an index. Nothing here depends on the sizes of the programs.
-/
module

public import proofs.«01_k».proof.Proof.Scale
public import Idealize.ShloMosaic.Lib.Pointwise

@[expose] public section

noncomputable section

namespace Cert.Rows

open Idealize.ShloMosaic

variable {n m : ℕ}

/-- The value a row's scale is made from: the greatest magnitude in the row, times the f32 nearest `1/448`. -/
def rowVal (f : Fin m → EReal) : EReal :=
  (Finset.univ : Finset (Fin m)).fold max (Ideal.ofBits .f32 0xFF800000#32) (fun k => max (f k) (-f k))
    * Ideal.ofBits .f32 0x3B124925#32

/-- A vector reshaped to a column, at row `r`. -/
theorem shapeCast_col {α : Type} (x : (⟨1, ![n]⟩ : Shape).Idx → α) (h : (⟨1, ![n]⟩ : Shape).ShapeCasts ⟨2, ![n, 1]⟩) (r : Fin n) :
    shapeCast ⟨2, ![n, 1]⟩ x h (ix2 r 0) = x (ix1 r) := by
  refine shapeCast_apply x h _ _ ?_
  rw [Shape.rowMajor_val_one, Shape.rowMajor_val_two]
  show r.val = r.val * 1 + 0
  omega

/-- A column reshaped to a vector, at row `r`. -/
theorem shapeCast_uncol {α : Type} (x : (⟨2, ![n, 1]⟩ : Shape).Idx → α) (h : (⟨2, ![n, 1]⟩ : Shape).ShapeCasts ⟨1, ![n]⟩) (r : Fin n) :
    shapeCast ⟨1, ![n]⟩ x h (ix1 r) = x (ix2 r 0) := by
  refine shapeCast_apply x h _ _ ?_
  rw [Shape.rowMajor_val_one, Shape.rowMajor_val_two]
  show r.val * 1 + 0 = r.val
  omega

/-- A one-row array reshaped to a vector, at `r`. -/
theorem shapeCast_unrow {α : Type} (x : (⟨2, ![1, n]⟩ : Shape).Idx → α) (h : (⟨2, ![1, n]⟩ : Shape).ShapeCasts ⟨1, ![n]⟩) (r : Fin n) :
    shapeCast ⟨1, ![n]⟩ x h (ix1 r) = x (ix2 0 r) := by
  refine shapeCast_apply x h _ _ ?_
  rw [Shape.rowMajor_val_one, Shape.rowMajor_val_two]
  show 0 * n + r.val = r.val
  omega

/-- A leading axis of size one dropped, at row `r` and column `k`. -/
theorem shapeCast_drop {α : Type} (x : (⟨3, ![1, n, m]⟩ : Shape).Idx → α) (h : (⟨3, ![1, n, m]⟩ : Shape).ShapeCasts ⟨2, ![n, m]⟩)
    (r : Fin n) (k : Fin m) : shapeCast ⟨2, ![n, m]⟩ x h (ix2 r k) = x (ix3 0 r k) := by
  refine shapeCast_apply x h _ _ ?_
  rw [Shape.rowMajor_val_two, Shape.rowMajor_val_three]
  show (0 * n + r.val) * m + k.val = r.val * m + k.val
  rw [Nat.zero_mul, Nat.zero_add]

/-- A leading axis of size one put before, at row `r` and column `k`. -/
theorem shapeCast_lead {α : Type} (x : (⟨2, ![n, m]⟩ : Shape).Idx → α) (h : (⟨2, ![n, m]⟩ : Shape).ShapeCasts ⟨3, ![1, n, m]⟩)
    (r : Fin n) (k : Fin m) : shapeCast ⟨3, ![1, n, m]⟩ x h (ix3 0 r k) = x (ix2 r k) := by
  refine shapeCast_apply x h _ _ ?_
  rw [Shape.rowMajor_val_two, Shape.rowMajor_val_three]
  show r.val * m + k.val = (0 * n + r.val) * m + k.val
  rw [Nat.zero_mul, Nat.zero_add]

/-- A column spread over the columns of a matrix, at row `r` and column `k`. -/
theorem broadcast_col {α : Type} (x : (⟨2, ![n, 1]⟩ : Shape).Idx → α) (h : (⟨2, ![n, 1]⟩ : Shape).Broadcasts ⟨2, ![n, m]⟩)
    (r : Fin n) (k : Fin m) : broadcastTo ⟨2, ![n, m]⟩ x h (ix2 r k) = x (ix2 r 0) := by
  refine broadcastTo_apply x h _ _ fun a => ?_
  fin_cases a
  · show r.val = if n = 1 then 0 else r.val
    have := r.isLt
    split <;> omega
  · rfl

/-- The row maxima of the magnitudes, scaled, as the programs write them, at row `r`. -/
theorem rowVal_vec (w : FVec Ideal ⟨2, ![n, m]⟩ .f32) (hr : (⟨2, ![n, m]⟩ : Shape).Reduces [1] ⟨1, ![n]⟩)
    (hc : (⟨1, ![n]⟩ : Shape).ShapeCasts ⟨2, ![n, 1]⟩) (hφ : FKind.Formats .f32) (hacc : 0xFF800000#32 = FKind.maximumf.neutral .f32 hφ)
    (r : Fin n) :
    mulf (shapeCast ⟨2, ![n, 1]⟩ (multiReduction .maximumf [1] ⟨1, ![n]⟩ (absf w) 0xFF800000#32 hr hφ hacc) hc)
        (broadcast ⟨2, ![n, 1]⟩ (Scalar.ofBits (F := Ideal) .f32 0x3B124925#32)) (ix2 r 0)
      = rowVal (fun k => w (ix2 r k)) := by
  show shapeCast ⟨2, ![n, 1]⟩ (multiReduction .maximumf [1] ⟨1, ![n]⟩ (absf w) 0xFF800000#32 hr hφ hacc) hc (ix2 r 0)
    * Ideal.ofBits .f32 0x3B124925#32 = _
  rw [shapeCast_col, multiReduction_maximumf_eq_fold, Shape.Reduces.fold_fiber_r2_a1]
  rfl

/-- One step of the field search over a whole vector of values. -/
def stepV {s : Shape} (v : FVec Ideal s .f32) (f : IVec s 32) (b : BitVec 32) : IVec s 32 :=
  select (cmpf .oge v (bitcastToFloat .f32 (shli (addi f (broadcast s b)) (broadcast s 23#32)))) (addi f (broadcast s b)) f

/-- It is the scalar step at every index. -/
theorem stepV_apply {s : Shape} (v : FVec Ideal s .f32) (f : IVec s 32) (b : BitVec 32) (i : s.Idx) :
    stepV v f b i = Scale.step (v i) (f i) b := rfl

/-- An element of a quantised row: divided by the row's scale and clipped to the range of the 8-bit format. -/
def code (x inv : EReal) : EReal :=
  min (Ideal.ofBits .f32 0x43E00000#32) (max (Ideal.ofBits .f32 0xC3E00000#32) (x * inv))

end Cert.Rows

end
-- ==== Proof.KernelBlock.lean ====
/-
  What one grid step of the kernel's first call computes from its blocks, read at an index: the codes, the
  scale and the rounded weight of each row of the weight block, and the two products.
-/
module

public import proofs.«01_k».proof.Proof.Gen.KernelIdeal.Frame
public import proofs.«01_k».proof.Proof.Rows

@[expose] public section

set_option maxRecDepth 16384

noncomputable section

namespace Cert.KernelIdeal.Block

open Idealize.ShloMosaic
open Cert.KernelIdeal Cert.KernelIdeal.Gen Cert.Rows

variable (w : Vec Ideal S256x3584 .f32)

/-- Row `r`'s value, from which its scale is made. -/
theorem val_apply (r : Fin 256) : k0_pay2 (F := Ideal) w (ix2 r 0) = rowVal (fun k => w (ix2 r k)) :=
  rowVal_vec w reduces_S256x3584_S256 shapeCasts_S256_S256x1 (.inl rfl) rfl r

/-- The fields after three steps of the search, -/
theorem search3 : k0_pay3 (F := Ideal) w
    = stepV (k0_pay2 w) (stepV (k0_pay2 w) (stepV (k0_pay2 w) (broadcast S256x1 0#32) 128#32) 64#32) 32#32 := rfl

/-- and the remaining five. -/
theorem search8 (v : FVec Ideal S256x1 .f32) (f : IVec S256x1 32) :
    k0_pay6 (F := Ideal) v f (cmpf .oge v (bitcastToFloat .f32 (shli (addi f (broadcast S256x1 16#32)) (broadcast S256x1 23#32))))
        (addi f (broadcast S256x1 16#32))
      = stepV v (stepV v (stepV v (stepV v (stepV v f 16#32) 8#32) 4#32) 2#32) 1#32 := rfl

/-- The fields the whole search finds. -/
theorem search_eq : k0_pay6 (F := Ideal) (k0_pay2 w) (k0_pay3 w) (k0_pay4 w) (k0_pay5 w)
    = stepV (k0_pay2 w) (stepV (k0_pay2 w) (stepV (k0_pay2 w) (stepV (k0_pay2 w) (stepV (k0_pay2 w) (k0_pay3 w) 16#32) 8#32) 4#32) 2#32) 1#32 :=
  search8 (k0_pay2 w) (k0_pay3 w)

/-- Row `r`'s field. -/
theorem field_apply (r : Fin 256) : k0_pay6 (F := Ideal) (k0_pay2 w) (k0_pay3 w) (k0_pay4 w) (k0_pay5 w) (ix2 r 0)
    = Scale.field (rowVal (fun k => w (ix2 r k))) := by
  rw [search_eq, search3]
  iterate 8 rw [stepV_apply]
  rw [val_apply, show broadcast S256x1 0#32 (ix2 r 0) = 0#32 from rfl]
  rfl

/-- Row `r`'s exponent. -/
theorem expo_apply (r : Fin 256) :
    k0_pay9 (k0_pay7 (F := Ideal) (k0_pay2 w) (k0_pay3 w) (k0_pay4 w) (k0_pay5 w))
        (k0_pay8 (F := Ideal) (k0_pay2 w) (k0_pay3 w) (k0_pay4 w) (k0_pay5 w)) 0#32 (ix2 r 0)
      = Scale.expo (Scale.field (rowVal (fun k => w (ix2 r k)))) := by
  rw [← field_apply]
  rfl

end Cert.KernelIdeal.Block

end
-- ==== Proof.KernelPay.lean ====
/-
  The values one grid step of the kernel's first call stores, read at an index: each element's code, each row's
  scale, each element's rounded weight, and the two products.
-/
module

public import proofs.«01_k».proof.Proof.KernelBlock

@[expose] public section

set_option maxRecDepth 16384

noncomputable section

namespace Cert.KernelIdeal.Block

open Idealize.ShloMosaic
open Cert.KernelIdeal Cert.KernelIdeal.Gen Cert.Rows

/-- A scale is the power of two its row's exponent names. -/
theorem scale_of_expo (b : IVec S256x1 1) (c : IVec S256x1 32) (r : Fin 256) :
    k0_pay13 (F := Ideal) b c 0#32 (ix2 0 r) = Scale.word (IntOp.addi (k0_pay9 b c 0#32 (ix2 r 0)) 127#32) := by
  pointwise [k0_pay13, k0_pay10, k0_pay9]
  rfl

/-- A code is the element over its row's scale, clipped. -/
theorem code_of_expo (w : Vec Ideal S256x3584 .f32) (b : IVec S256x1 1) (c : IVec S256x1 32) (r : Fin 256) (k : Fin 3584) :
    k0_pay11 (F := Ideal) w b c 0#32 (ix2 r k)
      = code (w (ix2 r k)) (Scale.word (IntOp.addi (IntOp.subi 0#32 (k0_pay9 b c 0#32 (ix2 r 0))) 127#32)) := by
  pointwise [k0_pay11, k0_pay9]
  rfl

/-- A rounded weight is the code times the scale. -/
theorem weight_of_expo (w : Vec Ideal S256x3584 .f32) (b : IVec S256x1 1) (c : IVec S256x1 32) (r : Fin 256) (k : Fin 3584) :
    k0_pay12 (F := Ideal) w b c 0#32 (ix2 r k)
      = k0_pay11 (F := Ideal) w b c 0#32 (ix2 r k) * Scale.word (IntOp.addi (k0_pay9 b c 0#32 (ix2 r 0)) 127#32) := by
  pointwise [k0_pay12, k0_pay11, k0_pay10, k0_pay9]
  rfl

/-- The weight gradient's block: the column of `g` against the column of `x`. -/
theorem dw_apply (g : Vec Ideal S3072x256 .bf16) (x : Vec Ideal S3072x3584 .bf16) (r : Fin 256) (k : Fin 3584) :
    k0_pay14 (F := Ideal) g x (ix2 r k) = ∑ s : Fin 3072, g (ix2 s r) * x (ix2 s k) := by
  pointwise [k0_pay14]

/-- The forward product's block: the row of `x` against the row of rounded weights. -/
theorem y_apply (wq : FVec Ideal S256x3584 .bf16) (x : Vec Ideal S3072x3584 .bf16) (s : Fin 3072) (r : Fin 256) :
    k0_pay1 (F := Ideal) wq x (ix2 s r) = ∑ k : Fin 3584, x (ix2 s k) * wq (ix2 r k) := by
  pointwise [k0_pay1]

end Cert.KernelIdeal.Block

end
-- ==== Proof.Model.lean ====
/-
  The results as functions of the arrays, for any way of making a scale from a row's value: a code, a scale,
  a rounded weight, and the three products over rounded weights. The kernel's arrays and the reference's are
  both instances.
-/
module

public import proofs.«01_k».proof.Proof.Rows

@[expose] public section

noncomputable section

namespace Cert.Model

open Idealize.ShloMosaic Cert.Rows

variable {n d t : ℕ} (sc iv : EReal → EReal)

/-- A matrix of extended reals. -/
abbrev Mat (n d : ℕ) : Type := (⟨2, ![n, d]⟩ : Shape).Idx → EReal

/-- The value of row `o`, from which its scale is made. -/
def val (w : Mat n d) (o : Fin n) : EReal := rowVal (fun k : Fin d => w (ix2 o k))

/-- The code of element `(o, k)`. -/
def codes (w : Mat n d) (o : Fin n) (k : Fin d) : EReal := code (w (ix2 o k)) (iv (val w o))

/-- The scale of row `o`. -/
def scales (w : Mat n d) (o : Fin n) : EReal := sc (val w o)

/-- The rounded weight `(o, k)`: the code times the scale. -/
def weights (w : Mat n d) (o : Fin n) (k : Fin d) : EReal := codes iv w o k * scales sc w o

/-- The forward product: row `s` of `x` against row `o` of the rounded weights. -/
def fwd (x : Mat t d) (w : Mat n d) (s : Fin t) (o : Fin n) : EReal := ∑ k : Fin d, x (ix2 s k) * weights sc iv w o k

/-- The gradient by the weights: column `o` of `g` against column `k` of `x`. -/
def gradW (g : Mat t n) (x : Mat t d) (o : Fin n) (k : Fin d) : EReal := ∑ s : Fin t, g (ix2 s o) * x (ix2 s k)

/-- The gradient by the input: row `s` of `g` against column `k` of the rounded weights. -/
def gradX (g : Mat t n) (w : Mat n d) (s : Fin t) (k : Fin d) : EReal := ∑ o : Fin n, g (ix2 s o) * weights sc iv w o k

end Cert.Model

end
-- ==== Proof.KernelOut.lean ====
/-
  What one grid step of the kernel's first call leaves in each output block, as a function of its input blocks:
  the model's results for the 256 rows of the weight block.
-/
module

public import proofs.«01_k».proof.Proof.KernelPay
public import proofs.«01_k».proof.Proof.Model

@[expose] public section

set_option maxRecDepth 16384

noncomputable section

namespace Cert.KernelIdeal.Block

open Idealize.ShloMosaic Idealize.ShloMosaic.Tactic
open Cert.KernelIdeal Cert.KernelIdeal.Gen Cert.Rows

theorem hz : (![0, 0] : Fin 2 → Nat) = fun _ => 0 := funext fun a => by fin_cases a <;> rfl

variable (x0 : Vec Ideal S3072x3584 .bf16) (x1 : Vec Ideal S256x3584 .f32) (x2 : Vec Ideal S3072x256 .bf16)

/-- Which rows have an exponent of their own, for a weight block. -/
abbrev special : IVec S256x1 1 := k0_pay7 (F := Ideal) (k0_pay2 x1) (k0_pay3 x1) (k0_pay4 x1) (k0_pay5 x1)

/-- The rows' exponents, before the special rows are set to zero. -/
abbrev shifted : IVec S256x1 32 := k0_pay8 (F := Ideal) (k0_pay2 x1) (k0_pay3 x1) (k0_pay4 x1) (k0_pay5 x1)

theorem scale_apply (r : Fin 256) :
    k0_pay13 (F := Ideal) (special x1) (shifted x1) 0#32 (ix2 0 r) = Model.scales Scale.scale x1 r := by
  rw [scale_of_expo, expo_apply]; rfl

theorem code_apply (r : Fin 256) (k : Fin 3584) :
    k0_pay11 (F := Ideal) x1 (special x1) (shifted x1) 0#32 (ix2 r k) = Model.codes Scale.inv x1 r k := by
  rw [code_of_expo, expo_apply]; rfl

theorem weight_apply (r : Fin 256) (k : Fin 3584) :
    k0_pay12 (F := Ideal) x1 (special x1) (shifted x1) 0#32 (ix2 r k) = Model.weights Scale.scale Scale.inv x1 r k := by
  rw [weight_of_expo, code_apply, expo_apply]; rfl

/-- The block of `y`. -/
theorem out3_apply (s : Fin 3072) (r : Fin 256) :
    out0_3 (F := Ideal) x0 x1 x2 (ix2 s r) = Model.fwd Scale.scale Scale.inv x0 x1 s r := by
  unfold_out out0_3
  rw [View.canon_unit_zero hz, View.ld_unit_zero hz, View.ld_unit_zero hz, y_apply]
  exact Finset.sum_congr rfl fun k _ => congrArg (x0 (ix2 s k) * ·) (weight_apply x1 r k)

/-- The block of the weight gradient. -/
theorem out4_apply (r : Fin 256) (k : Fin 3584) :
    out0_4 (F := Ideal) x0 x1 x2 (ix2 r k) = Model.gradW x2 x0 r k := by
  unfold_out out0_4
  rw [View.canon_unit_zero hz, View.ld_unit_zero hz, View.ld_unit_zero hz, dw_apply]
  rfl

/-- The block of codes. -/
theorem out5_apply (r : Fin 256) (k : Fin 3584) :
    out0_5 (F := Ideal) x0 x1 x2 (ix2 r k) = Model.codes Scale.inv x1 r k := by
  unfold_out out0_5
  rw [View.canon_unit_zero hz, View.ld_unit_zero hz]
  exact code_apply x1 r k

/-- The block of scales. -/
theorem out6_apply (r : Fin 256) :
    out0_6 (F := Ideal) x0 x1 x2 (ix2 0 r) = Model.scales Scale.scale x1 r := by
  unfold_out out0_6
  rw [View.canon_unit_zero hz, View.ld_unit_zero hz]
  exact scale_apply x1 r

/-- The block of rounded weights. -/
theorem out7_apply (r : Fin 256) (k : Fin 3584) :
    out0_7 (F := Ideal) x0 x1 x2 (ix2 r k) = Model.weights Scale.scale Scale.inv x1 r k := by
  unfold_out out0_7
  rw [View.canon_unit_zero hz, View.ld_unit_zero hz]
  exact weight_apply x1 r k

/-- The second call's product: the row block of `g` against the column block of rounded weights. -/
theorem dx_apply (g : Vec Ideal S1024x8192 .bf16) (wq : Vec Ideal S8192x512 .bf16) (s : Fin 1024) (k : Fin 512) :
    k1_pay1 (F := Ideal) g wq (ix2 s k) = ∑ o : Fin 8192, g (ix2 s o) * wq (ix2 o k) := by
  pointwise [k1_pay1]

/-- The block of the input gradient. -/
theorem out1_apply (g : Vec Ideal S1024x8192 .bf16) (wq : Vec Ideal S8192x512 .bf16) (s : Fin 1024) (k : Fin 512) :
    out1_2 (F := Ideal) g wq (ix2 s k) = ∑ o : Fin 8192, g (ix2 s o) * wq (ix2 o k) := by
  unfold out1_2
  rw [View.canon_unit_zero hz, View.ld_unit_zero hz, View.ld_unit_zero hz, dx_apply]

end Cert.KernelIdeal.Block

end
-- ==== Proof.KernelForward.lean ====
/-
  The arrays the kernel's first call leaves: each grid step writes its 256 rows (or columns) of every result,
  the 32 steps cover all 8192, so each array is the model's result for the whole weight matrix.
-/
module

public import proofs.«01_k».proof.Proof.KernelOut
public import Idealize.ShloMosaic.Lib.Pipeline.Value

@[expose] public section

set_option maxRecDepth 16384

noncomputable section

namespace Cert.KernelIdeal.Forward

open Idealize.ShloMosaic Idealize.ShloMosaic.TcCoe
open Idealize.ShloMosaic.Pipeline (Dat)
open Cert.KernelIdeal Cert.KernelIdeal.Gen Cert.KernelIdeal.Block

variable (V : (c : Dev nD) → (b : Ref sig .tc) → Buf (Elt Ideal) ((c : Thread nD τ).loc b)) (c : Dev nD)

/-- The row of the whole matrix that row `r` of step `t`'s block is. -/
def row (t : Fin cfg0.N) (r : Fin 256) : Fin 8192 := ⟨t.val * 256 + r.val, by have := t.isLt; have h : cfg0.N = 32 := N_0; omega⟩

/-- Every row is row `o % 256` of step `o / 256`'s block. -/
theorem row_onto (o : Fin 8192) : ∃ (t : Fin cfg0.N) (r : Fin 256), row t r = o :=
  ⟨⟨o.val / 256, by have h : cfg0.N = 32 := N_0; omega⟩, ⟨o.val % 256, by omega⟩, Fin.ext (by show o.val / 256 * 256 + o.val % 256 = o.val; omega)⟩

/-! ## Where each block sits in its array -/

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)
theorem idx3 : ∀ t : Fin cfg0.N, win0_3.index t (0 : Fin 2) = 0 ∧ win0_3.index t (1 : Fin 2) = t.val := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = 0 ∧ win0_6.index t (1 : Fin 2) = t.val := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)

theorem emb0 (t : Fin cfg0.N) (s : Fin 3072) (k : Fin 3584) : ((cfg0.win 0).blk t).view.emb (ix2 s k) = ix2 s k := by
  obtain ⟨e0, e1⟩ := idx0 t
  funext a; apply Fin.ext
  match a with
  | ⟨0, _⟩ => show win0_0.index t (0 : Fin 2) * 3072 + 1 * s.val = s.val; omega
  | ⟨1, _⟩ => show win0_0.index t (1 : Fin 2) * 3584 + 1 * k.val = k.val; omega

theorem emb1 (t : Fin cfg0.N) (r : Fin 256) (k : Fin 3584) : ((cfg0.win 1).blk t).view.emb (ix2 r k) = ix2 (row t r) k := by
  obtain ⟨e0, e1⟩ := idx1 t
  funext a; apply Fin.ext
  match a with
  | ⟨0, _⟩ => show win0_1.index t (0 : Fin 2) * 256 + 1 * r.val = t.val * 256 + r.val; rw [e0]; omega
  | ⟨1, _⟩ => show win0_1.index t (1 : Fin 2) * 3584 + 1 * k.val = k.val; omega

theorem emb2 (t : Fin cfg0.N) (s : Fin 3072) (r : Fin 256) : ((cfg0.win 2).blk t).view.emb (ix2 s r) = ix2 s (row t r) := by
  obtain ⟨e0, e1⟩ := idx2 t
  funext a; apply Fin.ext
  match a with
  | ⟨0, _⟩ => show win0_2.index t (0 : Fin 2) * 3072 + 1 * s.val = s.val; omega
  | ⟨1, _⟩ => show win0_2.index t (1 : Fin 2) * 256 + 1 * r.val = t.val * 256 + r.val; rw [e1]; omega

theorem emb3 (t : Fin cfg0.N) (s : Fin 3072) (r : Fin 256) : ((cfg0.win 3).blk t).view.emb (ix2 s r) = ix2 s (row t r) := by
  obtain ⟨e0, e1⟩ := idx3 t
  funext a; apply Fin.ext
  match a with
  | ⟨0, _⟩ => show win0_3.index t (0 : Fin 2) * 3072 + 1 * s.val = s.val; omega
  | ⟨1, _⟩ => show win0_3.index t (1 : Fin 2) * 256 + 1 * r.val = t.val * 256 + r.val; rw [e1]; omega

theorem emb4 (t : Fin cfg0.N) (r : Fin 256) (k : Fin 3584) : ((cfg0.win 4).blk t).view.emb (ix2 r k) = ix2 (row t r) k := by
  obtain ⟨e0, e1⟩ := idx4 t
  funext a; apply Fin.ext
  match a with
  | ⟨0, _⟩ => show win0_4.index t (0 : Fin 2) * 256 + 1 * r.val = t.val * 256 + r.val; rw [e0]; omega
  | ⟨1, _⟩ => show win0_4.index t (1 : Fin 2) * 3584 + 1 * k.val = k.val; omega

theorem emb5 (t : Fin cfg0.N) (r : Fin 256) (k : Fin 3584) : ((cfg0.win 5).blk t).view.emb (ix2 r k) = ix2 (row t r) k := by
  obtain ⟨e0, e1⟩ := idx5 t
  funext a; apply Fin.ext
  match a with
  | ⟨0, _⟩ => show win0_5.index t (0 : Fin 2) * 256 + 1 * r.val = t.val * 256 + r.val; rw [e0]; omega
  | ⟨1, _⟩ => show win0_5.index t (1 : Fin 2) * 3584 + 1 * k.val = k.val; omega

theorem emb6 (t : Fin cfg0.N) (r : Fin 256) : ((cfg0.win 6).blk t).view.emb (ix2 0 r) = ix2 0 (row t r) := by
  obtain ⟨e0, e1⟩ := idx6 t
  funext a; apply Fin.ext
  match a with
  | ⟨0, _⟩ => show win0_6.index t (0 : Fin 2) * 1 + 1 * 0 = 0; omega
  | ⟨1, _⟩ => show win0_6.index t (1 : Fin 2) * 256 + 1 * r.val = t.val * 256 + r.val; rw [e1]; omega

theorem emb7 (t : Fin cfg0.N) (r : Fin 256) (k : Fin 3584) : ((cfg0.win 7).blk t).view.emb (ix2 r k) = ix2 (row t r) k := by
  obtain ⟨e0, e1⟩ := idx7 t
  funext a; apply Fin.ext
  match a with
  | ⟨0, _⟩ => show win0_7.index t (0 : Fin 2) * 256 + 1 * r.val = t.val * 256 + r.val; rw [e0]; omega
  | ⟨1, _⟩ => show win0_7.index t (1 : Fin 2) * 3584 + 1 * k.val = k.val; omega

/-! ## The input blocks are parts of the arrays -/

/-- The activations, as the call finds them, -/
abbrev X : Model.Mat 3072 3584 := V c main_v0
/-- the weights, -/
abbrev W : Model.Mat 8192 3584 := V c main_arg1
/-- and the gradient coming in. -/
abbrev G : Model.Mat 3072 8192 := V c main_v1

theorem blk0 (t : Fin cfg0.N) (s : Fin 3072) (k : Fin 3584) : iblk0 V c 0 t (ix2 s k) = X V c (ix2 s k) := by
  show V c main_v0 (((cfg0.win 0).blk t).view.emb (ix2 s k)) = _; rw [emb0]
theorem blk1 (t : Fin cfg0.N) (r : Fin 256) (k : Fin 3584) : iblk0 V c 1 t (ix2 r k) = W V c (ix2 (row t r) k) := by
  show V c main_arg1 (((cfg0.win 1).blk t).view.emb (ix2 r k)) = _; rw [emb1]
theorem blk2 (t : Fin cfg0.N) (s : Fin 3072) (r : Fin 256) : iblk0 V c 2 t (ix2 s r) = G V c (ix2 s (row t r)) := by
  show V c main_v1 (((cfg0.win 2).blk t).view.emb (ix2 s r)) = _; rw [emb2]

/-- A row of the block is the row of the matrix, so their values agree, -/
theorem val_blk (t : Fin cfg0.N) (r : Fin 256) : Model.val (iblk0 V c 1 t : Model.Mat 256 3584) r = Model.val (W V c) (row t r) := by
  unfold Model.val
  exact congrArg Rows.rowVal (funext fun k => blk1 V c t r k)

variable (sc iv : EReal → EReal)

/-- and with them scales, codes and rounded weights. -/
theorem scales_blk (t : Fin cfg0.N) (r : Fin 256) :
    Model.scales sc (iblk0 V c 1 t : Model.Mat 256 3584) r = Model.scales sc (W V c) (row t r) := by
  unfold Model.scales; rw [val_blk]
theorem codes_blk (t : Fin cfg0.N) (r : Fin 256) (k : Fin 3584) :
    Model.codes iv (iblk0 V c 1 t : Model.Mat 256 3584) r k = Model.codes iv (W V c) (row t r) k := by
  unfold Model.codes; rw [val_blk, blk1]
theorem weights_blk (t : Fin cfg0.N) (r : Fin 256) (k : Fin 3584) :
    Model.weights sc iv (iblk0 V c 1 t : Model.Mat 256 3584) r k = Model.weights sc iv (W V c) (row t r) k := by
  unfold Model.weights; rw [codes_blk, scales_blk]

/-! ## The output arrays -/

/-- `y`, written out over the whole array, -/
def yArr : Vec Ideal S3072x8192 .bf16 := fun i => Model.fwd Scale.scale Scale.inv (X V c) (W V c) (i 0) (i 1)
/-- the weight gradient, -/
def dwArr : Vec Ideal S8192x3584 .f32 := fun i => Model.gradW (G V c) (X V c) (i 0) (i 1)
/-- the codes, -/
def codesArr : Vec Ideal S8192x3584 .fp8e4m3 := fun i => Model.codes Scale.inv (W V c) (i 0) (i 1)
/-- the scales, -/
def scaleArr : Vec Ideal S1x8192 .f32 := fun i => Model.scales Scale.scale (W V c) (i 1)
/-- and the rounded weights. -/
def wqArr : Vec Ideal S8192x3584 .bf16 := fun i => Model.weights Scale.scale Scale.inv (W V c) (i 0) (i 1)

theorem flushed3 (t : Fin cfg0.N) : (dat0 V c).flushed 3 t = ((cfg0.win 3).blk t).view.read (Elt Ideal) (yArr V c) := by
  show (cfg0.win 3).cut (grid0.coords t) ((dat0 V c).after 3 t) = _
  rw [after0_3]
  funext j
  obtain ⟨s, r, rfl⟩ : ∃ (s : Fin 3072) (r : Fin 256), j = ix2 s r := ⟨j 0, j 1, eq_ix2 j⟩
  show out0_3 (iblk0 V c 0 t) (iblk0 V c 1 t) (iblk0 V c 2 t) (ix2 s r) = yArr V c (((cfg0.win 3).blk t).view.emb (ix2 s r))
  rw [emb3, out3_apply]
  show Model.fwd _ _ _ _ _ _ = Model.fwd _ _ _ _ s (row t r)
  unfold Model.fwd
  exact Finset.sum_congr rfl fun k _ => by rw [weights_blk, blk0]

theorem flushed4 (t : Fin cfg0.N) : (dat0 V c).flushed 4 t = ((cfg0.win 4).blk t).view.read (Elt Ideal) (dwArr V c) := by
  show (cfg0.win 4).cut (grid0.coords t) ((dat0 V c).after 4 t) = _
  rw [after0_4]
  funext j
  obtain ⟨r, k, rfl⟩ : ∃ (r : Fin 256) (k : Fin 3584), j = ix2 r k := ⟨j 0, j 1, eq_ix2 j⟩
  show out0_4 (iblk0 V c 0 t) (iblk0 V c 1 t) (iblk0 V c 2 t) (ix2 r k) = dwArr V c (((cfg0.win 4).blk t).view.emb (ix2 r k))
  rw [emb4, out4_apply]
  show Model.gradW _ _ _ _ = Model.gradW _ _ (row t r) k
  unfold Model.gradW
  exact Finset.sum_congr rfl fun s _ => by rw [blk2, blk0]

theorem flushed5 (t : Fin cfg0.N) : (dat0 V c).flushed 5 t = ((cfg0.win 5).blk t).view.read (Elt Ideal) (codesArr V c) := by
  show (cfg0.win 5).cut (grid0.coords t) ((dat0 V c).after 5 t) = _
  rw [after0_5]
  funext j
  obtain ⟨r, k, rfl⟩ : ∃ (r : Fin 256) (k : Fin 3584), j = ix2 r k := ⟨j 0, j 1, eq_ix2 j⟩
  show out0_5 (iblk0 V c 0 t) (iblk0 V c 1 t) (iblk0 V c 2 t) (ix2 r k) = codesArr V c (((cfg0.win 5).blk t).view.emb (ix2 r k))
  rw [emb5, out5_apply]
  exact codes_blk V c _ t r k

theorem flushed6 (t : Fin cfg0.N) : (dat0 V c).flushed 6 t = ((cfg0.win 6).blk t).view.read (Elt Ideal) (scaleArr V c) := by
  show (cfg0.win 6).cut (grid0.coords t) ((dat0 V c).after 6 t) = _
  rw [after0_6]
  funext j
  obtain ⟨r, rfl⟩ : ∃ (r : Fin 256), j = ix2 0 r := ⟨j 1, (eq_ix2 j).trans (congrArg (fun z => ix2 z (j 1)) (Subsingleton.elim (α := Fin 1) _ _))⟩
  show out0_6 (iblk0 V c 0 t) (iblk0 V c 1 t) (iblk0 V c 2 t) (ix2 0 r) = scaleArr V c (((cfg0.win 6).blk t).view.emb (ix2 0 r))
  rw [emb6, out6_apply]
  exact scales_blk V c _ t r

theorem flushed7 (t : Fin cfg0.N) : (dat0 V c).flushed 7 t = ((cfg0.win 7).blk t).view.read (Elt Ideal) (wqArr V c) := by
  show (cfg0.win 7).cut (grid0.coords t) ((dat0 V c).after 7 t) = _
  rw [after0_7]
  funext j
  obtain ⟨r, k, rfl⟩ : ∃ (r : Fin 256) (k : Fin 3584), j = ix2 r k := ⟨j 0, j 1, eq_ix2 j⟩
  show out0_7 (iblk0 V c 0 t) (iblk0 V c 1 t) (iblk0 V c 2 t) (ix2 r k) = wqArr V c (((cfg0.win 7).blk t).view.emb (ix2 r k))
  rw [emb7, out7_apply]
  exact weights_blk V c _ _ t r k

/-- What the array of `y` ends holding. -/
theorem final3 : (dat0 V c).arrAt 3 cfg0.N = yArr V c :=
  (dat0 V c).arrAt_eq_of_cover 3 (yArr V c) (fun t _ => flushed3 V c t) fun i => by
    obtain ⟨s, o, rfl⟩ : ∃ (s : Fin 3072) (o : Fin 8192), i = ix2 s o := ⟨i 0, i 1, eq_ix2 i⟩
    obtain ⟨t, r, rfl⟩ := row_onto o
    have hm := ((cfg0.win 3).blk t).view.emb_mem_set (ix2 s r)
    rw [emb3] at hm
    exact ⟨t, flush0_3 t, hm⟩

/-- What the array of the weight gradient ends holding. -/
theorem final4 : (dat0 V c).arrAt 4 cfg0.N = dwArr V c :=
  (dat0 V c).arrAt_eq_of_cover 4 (dwArr V c) (fun t _ => flushed4 V c t) fun i => by
    obtain ⟨o, k, rfl⟩ : ∃ (o : Fin 8192) (k : Fin 3584), i = ix2 o k := ⟨i 0, i 1, eq_ix2 i⟩
    obtain ⟨t, r, rfl⟩ := row_onto o
    have hm := ((cfg0.win 4).blk t).view.emb_mem_set (ix2 r k)
    rw [emb4] at hm
    exact ⟨t, flush0_4 t, hm⟩

/-- What the array of codes ends holding. -/
theorem final5 : (dat0 V c).arrAt 5 cfg0.N = codesArr V c :=
  (dat0 V c).arrAt_eq_of_cover 5 (codesArr V c) (fun t _ => flushed5 V c t) fun i => by
    obtain ⟨o, k, rfl⟩ : ∃ (o : Fin 8192) (k : Fin 3584), i = ix2 o k := ⟨i 0, i 1, eq_ix2 i⟩
    obtain ⟨t, r, rfl⟩ := row_onto o
    have hm := ((cfg0.win 5).blk t).view.emb_mem_set (ix2 r k)
    rw [emb5] at hm
    exact ⟨t, flush0_5 t, hm⟩

/-- What the array of scales ends holding. -/
theorem final6 : (dat0 V c).arrAt 6 cfg0.N = scaleArr V c :=
  (dat0 V c).arrAt_eq_of_cover 6 (scaleArr V c) (fun t _ => flushed6 V c t) fun i => by
    obtain ⟨t, r, h⟩ := row_onto (i 1)
    have hm := ((cfg0.win 6).blk t).view.emb_mem_set (ix2 0 r)
    rw [emb6, h] at hm
    have hi : i = ix2 0 (i 1) := (eq_ix2 (n0 := 1) (n1 := 8192) i).trans (congrArg (fun z => ix2 z (i 1)) (Subsingleton.elim (α := Fin 1) _ _))
    exact ⟨t, flush0_6 t, by rw [hi]; exact hm⟩

/-- What the array of rounded weights ends holding. -/
theorem final7 : (dat0 V c).arrAt 7 cfg0.N = wqArr V c :=
  (dat0 V c).arrAt_eq_of_cover 7 (wqArr V c) (fun t _ => flushed7 V c t) fun i => by
    obtain ⟨o, k, rfl⟩ : ∃ (o : Fin 8192) (k : Fin 3584), i = ix2 o k := ⟨i 0, i 1, eq_ix2 i⟩
    obtain ⟨t, r, rfl⟩ := row_onto o
    have hm := ((cfg0.win 7).blk t).view.emb_mem_set (ix2 r k)
    rw [emb7] at hm
    exact ⟨t, flush0_7 t, hm⟩

end Cert.KernelIdeal.Forward

end
-- ==== Proof.KernelBackward.lean ====
/-
  The array the kernel's second call leaves: the 3 by 7 grid steps write the blocks of 1024 rows by 512 columns,
  each the whole contraction over the 8192 rows of rounded weights; together they cover the input gradient.
-/
module

public import proofs.«01_k».proof.Proof.KernelOut
public import Idealize.ShloMosaic.Lib.Pipeline.Value

@[expose] public section

set_option maxRecDepth 16384

noncomputable section

namespace Cert.KernelIdeal.Backward

open Idealize.ShloMosaic Idealize.ShloMosaic.TcCoe
open Idealize.ShloMosaic.Pipeline (Dat)
open Cert.KernelIdeal Cert.KernelIdeal.Gen Cert.KernelIdeal.Block

variable (V : (c : Dev nD) → (b : Ref sig .tc) → Buf (Elt Ideal) ((c : Thread nD τ).loc b)) (c : Dev nD)

/-- Step `t`'s row block. -/
def rb (t : Fin cfg1.N) : ℕ := win1_2.index t (0 : Fin 2)
/-- Step `t`'s column block. -/
def cb (t : Fin cfg1.N) : ℕ := win1_2.index t (1 : Fin 2)

/-- There are three row blocks and seven column blocks; the row block picks the part of `g`, the column block
    the part of the rounded weights. -/
theorem idx : ∀ t : Fin cfg1.N, win1_2.index t (0 : Fin 2) < 3 ∧ win1_2.index t (1 : Fin 2) < 7
    ∧ win1_0.index t (0 : Fin 2) = win1_2.index t (0 : Fin 2) ∧ win1_0.index t (1 : Fin 2) = 0
    ∧ win1_1.index t (0 : Fin 2) = 0 ∧ win1_1.index t (1 : Fin 2) = win1_2.index t (1 : Fin 2) :=
  (by decide +kernel : ∀ t : Fin grid1.N, _)

/-- Every pair of blocks has its step. -/
theorem idx_onto : ∀ (a : Fin 3) (b : Fin 7), ∃ t : Fin cfg1.N, win1_2.index t (0 : Fin 2) = a.val ∧ win1_2.index t (1 : Fin 2) = b.val :=
  (by decide +kernel : ∀ (a : Fin 3) (b : Fin 7), ∃ t : Fin grid1.N, win1_2.index t (0 : Fin 2) = a.val ∧ win1_2.index t (1 : Fin 2) = b.val)

/-- The row of the array that row `s` of the block is, -/
def row (t : Fin cfg1.N) (s : Fin 1024) : Fin 3072 := ⟨rb t * 1024 + s.val, by have := (idx t).1; unfold rb; omega⟩
/-- and its column. -/
def col (t : Fin cfg1.N) (k : Fin 512) : Fin 3584 := ⟨cb t * 512 + k.val, by have := (idx t).2.1; unfold cb; omega⟩

/-- Every place of the array is in some block. -/
theorem onto (s : Fin 3072) (k : Fin 3584) : ∃ (t : Fin cfg1.N) (s' : Fin 1024) (k' : Fin 512), row t s' = s ∧ col t k' = k := by
  obtain ⟨t, h0, h1⟩ := idx_onto ⟨s.val / 1024, by omega⟩ ⟨k.val / 512, by omega⟩
  refine ⟨t, ⟨s.val % 1024, by omega⟩, ⟨k.val % 512, by omega⟩, Fin.ext ?_, Fin.ext ?_⟩
  · show win1_2.index t (0 : Fin 2) * 1024 + s.val % 1024 = s.val
    rw [h0]; show s.val / 1024 * 1024 + s.val % 1024 = s.val; omega
  · show win1_2.index t (1 : Fin 2) * 512 + k.val % 512 = k.val
    rw [h1]; show k.val / 512 * 512 + k.val % 512 = k.val; omega

theorem emb0 (t : Fin cfg1.N) (s : Fin 1024) (o : Fin 8192) : ((cfg1.win 0).blk t).view.emb (ix2 s o) = ix2 (row t s) o := by
  obtain ⟨-, -, e0, e1, -, -⟩ := idx t
  funext a; apply Fin.ext
  match a with
  | ⟨0, _⟩ => show win1_0.index t (0 : Fin 2) * 1024 + 1 * s.val = win1_2.index t (0 : Fin 2) * 1024 + s.val; rw [e0]; omega
  | ⟨1, _⟩ => show win1_0.index t (1 : Fin 2) * 8192 + 1 * o.val = o.val; rw [e1]; omega

theorem emb1 (t : Fin cfg1.N) (o : Fin 8192) (k : Fin 512) : ((cfg1.win 1).blk t).view.emb (ix2 o k) = ix2 o (col t k) := by
  obtain ⟨-, -, -, -, e0, e1⟩ := idx t
  funext a; apply Fin.ext
  match a with
  | ⟨0, _⟩ => show win1_1.index t (0 : Fin 2) * 8192 + 1 * o.val = o.val; rw [e0]; omega
  | ⟨1, _⟩ => show win1_1.index t (1 : Fin 2) * 512 + 1 * k.val = win1_2.index t (1 : Fin 2) * 512 + k.val; rw [e1]; omega

theorem emb2 (t : Fin cfg1.N) (s : Fin 1024) (k : Fin 512) : ((cfg1.win 2).blk t).view.emb (ix2 s k) = ix2 (row t s) (col t k) := by
  funext a; apply Fin.ext
  match a with
  | ⟨0, _⟩ => show win1_2.index t (0 : Fin 2) * 1024 + 1 * s.val = win1_2.index t (0 : Fin 2) * 1024 + s.val; omega
  | ⟨1, _⟩ => show win1_2.index t (1 : Fin 2) * 512 + 1 * k.val = win1_2.index t (1 : Fin 2) * 512 + k.val; omega

/-- The gradient coming in, as the call finds it, -/
abbrev G : Model.Mat 3072 8192 := V c main_v1
/-- and the rounded weights. -/
abbrev Wq : Model.Mat 8192 3584 := V c main_v2_4

theorem blk0 (t : Fin cfg1.N) (s : Fin 1024) (o : Fin 8192) : iblk1 V c 0 t (ix2 s o) = G V c (ix2 (row t s) o) := by
  show V c main_v1 (((cfg1.win 0).blk t).view.emb (ix2 s o)) = _; rw [emb0]
theorem blk1 (t : Fin cfg1.N) (o : Fin 8192) (k : Fin 512) : iblk1 V c 1 t (ix2 o k) = Wq V c (ix2 o (col t k)) := by
  show V c main_v2_4 (((cfg1.win 1).blk t).view.emb (ix2 o k)) = _; rw [emb1]

/-- The input gradient, written out over the whole array. -/
def dxArr : Vec Ideal S3072x3584 .bf16 := fun i => ∑ o : Fin 8192, G V c (ix2 (i 0) o) * Wq V c (ix2 o (i 1))

theorem flushed2 (t : Fin cfg1.N) : (dat1 V c).flushed 2 t = ((cfg1.win 2).blk t).view.read (Elt Ideal) (dxArr V c) := by
  show (cfg1.win 2).cut (grid1.coords t) ((dat1 V c).after 2 t) = _
  rw [after1_2]
  funext j
  obtain ⟨s, k, rfl⟩ : ∃ (s : Fin 1024) (k : Fin 512), j = ix2 s k := ⟨j 0, j 1, eq_ix2 j⟩
  show out1_2 (iblk1 V c 0 t) (iblk1 V c 1 t) (ix2 s k) = dxArr V c (((cfg1.win 2).blk t).view.emb (ix2 s k))
  rw [emb2, out1_apply]
  show _ = ∑ o : Fin 8192, G V c (ix2 (row t s) o) * Wq V c (ix2 o (col t k))
  exact Finset.sum_congr rfl fun o _ => by rw [blk0, blk1]

/-- What the array of the input gradient ends holding. -/
theorem final2 : (dat1 V c).arrAt 2 cfg1.N = dxArr V c :=
  (dat1 V c).arrAt_eq_of_cover 2 (dxArr V c) (fun t _ => flushed2 V c t) fun i => by
    obtain ⟨s, k, rfl⟩ : ∃ (s : Fin 3072) (k : Fin 3584), i = ix2 s k := ⟨i 0, i 1, eq_ix2 i⟩
    obtain ⟨t, s', k', rfl, rfl⟩ := onto s k
    have hm := ((cfg1.win 2).blk t).view.emb_mem_set (ix2 s' k')
    rw [emb2] at hm
    exact ⟨t, flush1_2 t, hm⟩

end Cert.KernelIdeal.Backward

end
-- ==== Proof.KernelValue.lean ====
/-
  The kernel's five results as the model's, over its arguments: the two calls' arrays read through the reshapes
  around them.
-/
module

public import proofs.«01_k».proof.Proof.KernelRun
public import proofs.«01_k».proof.Proof.KernelForward
public import proofs.«01_k».proof.Proof.KernelBackward

@[expose] public section

set_option maxRecDepth 16384

noncomputable section

namespace Cert.KernelIdeal.Value

open Idealize.ShloMosaic Idealize.ShloMosaic.TcCoe
open Cert.KernelIdeal Cert.KernelIdeal.Gen Cert.Rows

variable (m : (ℓ : Loc nD τ sig) → Buf (Elt Ideal) ℓ) (ρ : Dev nD → PrngReg) (c : Dev nD)

/-- The activations, as a matrix, -/
def X : Model.Mat 3072 3584 := fun i => (m ((c : Thread nD τ).loc main_arg0) : Vec Ideal S1x3072x3584 .bf16) (ix3 0 (i 0) (i 1))
/-- the weights, -/
def W : Model.Mat 8192 3584 := m ((c : Thread nD τ).loc main_arg1)
/-- and the gradient coming in. -/
def G : Model.Mat 3072 8192 := fun i => (m ((c : Thread nD τ).loc main_arg2) : Vec Ideal S1x3072x8192 .bf16) (ix3 0 (i 0) (i 1))

/-- The first call finds these three. -/
theorem X_eq : Forward.X (V1 m ρ) c = X m c := by
  funext i
  obtain ⟨s, k, rfl⟩ : ∃ (s : Fin 3072) (k : Fin 3584), i = ix2 s k := ⟨i 0, i 1, eq_ix2 i⟩
  unfold Forward.X
  rw [Run.V1_x]
  exact shapeCast_drop _ shapeCasts_S1x3072x3584_S3072x3584 s k
theorem W_eq : Forward.W (V1 m ρ) c = W m c := Run.V1_w m ρ c
theorem G_eq : Forward.G (V1 m ρ) c = G m c := by
  funext i
  obtain ⟨s, o, rfl⟩ : ∃ (s : Fin 3072) (o : Fin 8192), i = ix2 s o := ⟨i 0, i 1, eq_ix2 i⟩
  unfold Forward.G
  rw [Run.V1_g]
  exact shapeCast_drop _ shapeCasts_S1x3072x8192_S3072x8192 s o

/-- The second call finds the gradient coming in and the first call's rounded weights. -/
theorem G2_eq : Backward.G (V2 m ρ) c = G m c := (Run.V2_g m ρ c).trans (G_eq m ρ c)
theorem Wq_eq : Backward.Wq (V2 m ρ) c = Forward.wqArr (V1 m ρ) c := (Run.V2_wq m ρ c).trans (Forward.final7 (V1 m ρ) c)

/-- `y` at `(s, o)`. -/
theorem y_apply (s : Fin 3072) (o : Fin 8192) : (W4 m ρ c (Proc.devRef .tc main_v4) : Vec Ideal S1x3072x8192 .bf16) (ix3 0 s o)
    = Model.fwd Scale.scale Scale.inv (X m c) (W m c) s o := by
  rw [Run.W4_y, Forward.final3, ← X_eq m ρ c, ← W_eq m ρ c]
  exact shapeCast_lead _ shapeCasts_S3072x8192_S1x3072x8192 s o

/-- The input gradient at `(s, k)`. -/
theorem dx_apply (s : Fin 3072) (k : Fin 3584) : (W4 m ρ c (Proc.devRef .tc main_v5) : Vec Ideal S1x3072x3584 .bf16) (ix3 0 s k)
    = Model.gradX Scale.scale Scale.inv (G m c) (W m c) s k := by
  rw [Run.W4_dx, Backward.final2]
  refine (shapeCast_lead _ shapeCasts_S3072x3584_S1x3072x3584 s k).trans ?_
  show ∑ o : Fin 8192, Backward.G (V2 m ρ) c (ix2 s o) * Backward.Wq (V2 m ρ) c (ix2 o k) = _
  rw [G2_eq, Wq_eq, ← W_eq m ρ c]
  rfl

/-- The weight gradient at `(o, k)`. -/
theorem dw_apply (o : Fin 8192) (k : Fin 3584) : (W4 m ρ c (Proc.devRef .tc main_v2_1) : Vec Ideal S8192x3584 .f32) (ix2 o k)
    = Model.gradW (G m c) (X m c) o k := by
  rw [Run.W4_dw, Forward.final4, ← X_eq m ρ c, ← G_eq m ρ c]
  rfl

/-- The code at `(o, k)`. -/
theorem codes_apply (o : Fin 8192) (k : Fin 3584) : (W4 m ρ c (Proc.devRef .tc main_v2_2) : Vec Ideal S8192x3584 .fp8e4m3) (ix2 o k)
    = Model.codes Scale.inv (W m c) o k := by
  rw [Run.W4_codes, Forward.final5, ← W_eq m ρ c]
  rfl

/-- The scale of row `o`. -/
theorem scale_apply (o : Fin 8192) : (W4 m ρ c (Proc.devRef .tc main_v6) : Vec Ideal S8192 .f32) (ix1 o)
    = Model.scales Scale.scale (W m c) o := by
  rw [Run.W4_scale, Forward.final6, ← W_eq m ρ c]
  exact shapeCast_unrow _ shapeCasts_S1x8192_S8192 o

end Cert.KernelIdeal.Value

end
-- ==== Proof.RefRows.lean ====
/-
  What the reference's quantiser computes, read at an index: the codes, the scales and the rounded weights of
  the model, at the reference's scale.
-/
module

public import proofs.«01_k».proof.Proof.Gen.ReferenceIdeal.Frame
public import proofs.«01_k».proof.Proof.Model

@[expose] public section

set_option maxRecDepth 16384

noncomputable section

namespace Cert.ReferenceIdeal.Rows

open Idealize.ShloMosaic
open Cert.ReferenceIdeal Cert.ReferenceIdeal.Gen Cert.Rows

/-- The exponents of a vector of values. -/
def expoV {s : Shape} (v : FVec Ideal s .f32) : FVec Ideal s .f32 :=
  select (andi (cmpf .oge v (broadcast s (Scalar.ofBits (F := Ideal) .f32 0x00800000#32)))
      (cmpf .olt v (broadcast s (Scalar.ofBits (F := Ideal) .f32 0x7F800000#32))))
    (addf (floor (divf (log v) (broadcast s (Scalar.log (Scalar.ofBits (F := Ideal) .f32 0x40000000#32)))))
      (broadcast s (Scalar.ofBits (F := Ideal) .f32 0x3F800000#32)))
    (broadcast s (Scalar.ofBits (F := Ideal) .f32 0x00000000#32))

theorem expoV_apply {s : Shape} (v : FVec Ideal s .f32) (i : s.Idx) : expoV v i = Scale.refExpo (v i) := rfl

theorem exp2_apply {s : Shape} (v : FVec Ideal s .f32) (i : s.Idx) : exp2 v i = Ideal.exp2 (v i) := rfl

/-- The clipped quotients of a matrix by a column of exponents, at any number of rows. -/
def codesV {n d : ℕ} (w : FVec Ideal ⟨2, ![n, d]⟩ .f32) (e : FVec Ideal ⟨2, ![n, 1]⟩ .f32)
    (h : (⟨2, ![n, 1]⟩ : Shape).Broadcasts ⟨2, ![n, d]⟩) : FVec Ideal ⟨2, ![n, d]⟩ .f32 :=
  minimumf (broadcast _ (Scalar.ofBits (F := Ideal) .f32 0x43E00000#32))
    (maximumf (broadcast _ (Scalar.ofBits (F := Ideal) .f32 0xC3E00000#32))
      (mulf w (broadcastTo ⟨2, ![n, d]⟩ (exp2 (subf (broadcast _ (Scalar.ofBits (F := Ideal) .f32 0x00000000#32)) e)) h)))

theorem codesV_apply {n d : ℕ} (w : FVec Ideal ⟨2, ![n, d]⟩ .f32) (e : FVec Ideal ⟨2, ![n, 1]⟩ .f32)
    (h : (⟨2, ![n, 1]⟩ : Shape).Broadcasts ⟨2, ![n, d]⟩) (o : Fin n) (k : Fin d) :
    codesV w e h (ix2 o k) = code (w (ix2 o k)) (Ideal.exp2 (Ideal.ofBits .f32 0x00000000#32 - e (ix2 o 0))) := by
  show min _ (max _ (w (ix2 o k) * broadcastTo ⟨2, ![n, d]⟩ _ h (ix2 o k))) = _
  rw [broadcast_col]
  rfl

/-- The codes times a column of scales, both brought to bf16 first, at any number of rows. -/
def weightsV {n d : ℕ} (q : FVec Ideal ⟨2, ![n, d]⟩ .fp8e4m3) (s : FVec Ideal ⟨2, ![n, 1]⟩ .f32)
    (h : (⟨2, ![n, 1]⟩ : Shape).Broadcasts ⟨2, ![n, d]⟩) : FVec Ideal ⟨2, ![n, d]⟩ .bf16 :=
  mulf (extf .bf16 q bitsLt_fp8e4m3_bf16) (broadcastTo ⟨2, ![n, d]⟩ (truncf .bf16 s bitsLt_bf16_f32 : FVec Ideal ⟨2, ![n, 1]⟩ .bf16) h)

theorem weightsV_apply {n d : ℕ} (q : FVec Ideal ⟨2, ![n, d]⟩ .fp8e4m3) (s : FVec Ideal ⟨2, ![n, 1]⟩ .f32)
    (h : (⟨2, ![n, 1]⟩ : Shape).Broadcasts ⟨2, ![n, d]⟩) (o : Fin n) (k : Fin d) :
    weightsV q s h (ix2 o k) = q (ix2 o k) * s (ix2 o 0) := by
  show q (ix2 o k) * broadcastTo ⟨2, ![n, d]⟩ (truncf .bf16 s bitsLt_bf16_f32 : FVec Ideal ⟨2, ![n, 1]⟩ .bf16) h (ix2 o k) = _
  rw [broadcast_col]
  rfl

variable (w : Vec Ideal S8192x3584 .f32)

theorem expo_eq : k0_pay1 (F := Ideal) w
    = expoV (mulf (shapeCast S8192x1 (multiReduction .maximumf [1] S8192 (absf w) 0xFF800000#32 reduces_S8192x3584_S8192 (.inl rfl) rfl)
        shapeCasts_S8192_S8192x1) (broadcast S8192x1 (Scalar.ofBits (F := Ideal) .f32 0x3B124925#32))) := rfl

/-- Row `o`'s exponent. -/
theorem expo_apply (o : Fin 8192) : k0_pay1 (F := Ideal) w (ix2 o 0) = Scale.refExpo (Model.val w o) := by
  rw [expo_eq, expoV_apply]
  exact congrArg Scale.refExpo (rowVal_vec w reduces_S8192x3584_S8192 shapeCasts_S8192_S8192x1 (.inl rfl) rfl o)

/-- Row `o`'s scale. -/
theorem scale_apply (o : Fin 8192) : k0_pay2 (F := Ideal) w (ix2 o 0) = Model.scales Scale.refScale w o := by
  rw [show k0_pay2 (F := Ideal) w = exp2 (k0_pay1 w) from rfl, exp2_apply, expo_apply]
  unfold Model.scales Scale.refScale
  rfl

/-- The code at `(o, k)`. -/
theorem code_apply (o : Fin 8192) (k : Fin 3584) : k0_pay3 (F := Ideal) w (ix2 o k) = Model.codes Scale.refInv w o k := by
  rw [show k0_pay3 (F := Ideal) w = codesV w (k0_pay1 (F := Ideal) w) broadcasts_S8192x1_S8192x3584 from rfl, codesV_apply, expo_apply]
  unfold Model.codes Scale.refInv
  rfl

/-- The rounded weight at `(o, k)`. -/
theorem weight_apply (o : Fin 8192) (k : Fin 3584) :
    k0_pay4 (F := Ideal) w (ix2 o k) = Model.weights Scale.refScale Scale.refInv w o k := by
  rw [show k0_pay4 (F := Ideal) w = weightsV (k0_pay3 (F := Ideal) w) (k0_pay2 (F := Ideal) w) broadcasts_S8192x1_S8192x3584 from rfl,
    weightsV_apply, code_apply, scale_apply]
  unfold Model.weights
  rfl

theorem hz : (![0, 0] : Fin 2 → Nat) = fun _ => 0 := funext fun a => by fin_cases a <;> rfl

/-- The quantiser's three blocks are its payloads. -/
theorem out1 : out0_1 (F := Ideal) w = k0_pay3 w := by
  unfold out0_1; rw [View.canon_unit_zero hz, View.ld_unit_zero hz]
theorem out2 : out0_2 (F := Ideal) w = k0_pay2 w := by
  unfold out0_2; rw [View.canon_unit_zero hz, View.ld_unit_zero hz]
theorem out3 : out0_3 (F := Ideal) w = k0_pay4 w := by
  unfold out0_3; rw [View.canon_unit_zero hz, View.ld_unit_zero hz]

end Cert.ReferenceIdeal.Rows

end
-- ==== Proof.RefRun.lean ====
/-
  The reference's run: its quantiser's one step leaves three whole arrays, and the host lines after it compute
  the three products and reshape the scales. Each result is stated as the program's own expression over the
  arguments.
-/
module

public import proofs.«01_k».proof.Proof.RefRows
public import Idealize.ShloMosaic.Lib.Pipeline.Value

@[expose] public section

set_option maxRecDepth 16384

noncomputable section

namespace Cert.ReferenceIdeal.Run

open Idealize.ShloMosaic Idealize.ShloMosaic.TcCoe Idealize.ShloMosaic.Tactic Idealize.SL.Sem
open Idealize.ShloMosaic.Pipeline (Dat)
open Cert.ReferenceIdeal Cert.ReferenceIdeal.Gen

variable (m : (ℓ : Loc nD τ sig) → Buf (Elt Ideal) ℓ) (ρ : Dev nD → PrngReg) (c : Dev nD)

/-! ## The one step's blocks are the whole arrays -/

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)

theorem emb0 (t : Fin cfg0.N) (j : S8192x3584.Idx) : ((cfg0.win 0).blk t).view.emb j = j := by
  obtain ⟨e0, e1⟩ := idx0 t
  funext a; apply Fin.ext
  match a with
  | ⟨0, _⟩ => show win0_0.index t (0 : Fin 2) * 8192 + 1 * (j 0).val = (j 0).val; omega
  | ⟨1, _⟩ => show win0_0.index t (1 : Fin 2) * 3584 + 1 * (j 1).val = (j 1).val; omega
theorem emb1 (t : Fin cfg0.N) (j : S8192x3584.Idx) : ((cfg0.win 1).blk t).view.emb j = j := by
  obtain ⟨e0, e1⟩ := idx1 t
  funext a; apply Fin.ext
  match a with
  | ⟨0, _⟩ => show win0_1.index t (0 : Fin 2) * 8192 + 1 * (j 0).val = (j 0).val; omega
  | ⟨1, _⟩ => show win0_1.index t (1 : Fin 2) * 3584 + 1 * (j 1).val = (j 1).val; omega
theorem emb2 (t : Fin cfg0.N) (j : S8192x1.Idx) : ((cfg0.win 2).blk t).view.emb j = j := by
  obtain ⟨e0, e1⟩ := idx2 t
  funext a; apply Fin.ext
  match a with
  | ⟨0, _⟩ => show win0_2.index t (0 : Fin 2) * 8192 + 1 * (j 0).val = (j 0).val; omega
  | ⟨1, _⟩ => show win0_2.index t (1 : Fin 2) * 1 + 1 * (j 1).val = (j 1).val; omega
theorem emb3 (t : Fin cfg0.N) (j : S8192x3584.Idx) : ((cfg0.win 3).blk t).view.emb j = j := by
  obtain ⟨e0, e1⟩ := idx3 t
  funext a; apply Fin.ext
  match a with
  | ⟨0, _⟩ => show win0_3.index t (0 : Fin 2) * 8192 + 1 * (j 0).val = (j 0).val; omega
  | ⟨1, _⟩ => show win0_3.index t (1 : Fin 2) * 3584 + 1 * (j 1).val = (j 1).val; omega

/-- The weights, as launched. -/
abbrev W : Vec Ideal S8192x3584 .f32 := m ((c : Thread nD τ).loc main_arg1)

/-- The activations, as launched, -/
abbrev X : Vec Ideal S1x3072x3584 .bf16 := m ((c : Thread nD τ).loc main_arg0)
/-- and the gradient coming in. -/
abbrev G : Vec Ideal S1x3072x8192 .bf16 := m ((c : Thread nD τ).loc main_arg2)

theorem iblk_eq (t : Fin cfg0.N) : iblk m c 0 t = W m c := by
  funext j; show V m c main_arg1 (((cfg0.win 0).blk t).view.emb j) = V m c main_arg1 j; rw [emb0]

theorem cut1 (t : Fin cfg0.N) (A : Vec Ideal S8192x3584 .fp8e4m3) :
    (cfg0.win 1).cut (grid0.coords t) A = ((cfg0.win 1).blk t).view.read (Elt Ideal) A := by
  funext j; show A j = A (((cfg0.win 1).blk t).view.emb j); rw [emb1]
theorem cut2 (t : Fin cfg0.N) (A : Vec Ideal S8192x1 .f32) :
    (cfg0.win 2).cut (grid0.coords t) A = ((cfg0.win 2).blk t).view.read (Elt Ideal) A := by
  funext j; show A j = A (((cfg0.win 2).blk t).view.emb j); rw [emb2]
theorem cut3 (t : Fin cfg0.N) (A : Vec Ideal S8192x3584 .bf16) :
    (cfg0.win 3).cut (grid0.coords t) A = ((cfg0.win 3).blk t).view.read (Elt Ideal) A := by
  funext j; show A j = A (((cfg0.win 3).blk t).view.emb j); rw [emb3]

/-- What the array of codes ends holding, -/
theorem final1 : (dats m 0 c).arrAt 1 cfg0.N = k0_pay3 (F := Ideal) (W m c) :=
  (dats m 0 c).arrAt_eq_of_cover 1 _
    (fun t _ => by
      show (cfg0.win 1).cut (grid0.coords t) ((dats m 0 c).after 1 t) = _
      rw [after0_1, Rows.out1, iblk_eq]; exact cut1 t _)
    fun i => ⟨t0_0, flush0_1 _, by have h := ((cfg0.win 1).blk t0_0).view.emb_mem_set i; rwa [emb1] at h⟩

/-- the array of scales, -/
theorem final2 : (dats m 0 c).arrAt 2 cfg0.N = k0_pay2 (F := Ideal) (W m c) :=
  (dats m 0 c).arrAt_eq_of_cover 2 _
    (fun t _ => by
      show (cfg0.win 2).cut (grid0.coords t) ((dats m 0 c).after 2 t) = _
      rw [after0_2, Rows.out2, iblk_eq]; exact cut2 t _)
    fun i => ⟨t0_0, flush0_2 _, by have h := ((cfg0.win 2).blk t0_0).view.emb_mem_set i; rwa [emb2] at h⟩

/-- and the array of rounded weights. -/
theorem final3 : (dats m 0 c).arrAt 3 cfg0.N = k0_pay4 (F := Ideal) (W m c) :=
  (dats m 0 c).arrAt_eq_of_cover 3 _
    (fun t _ => by
      show (cfg0.win 3).cut (grid0.coords t) ((dats m 0 c).after 3 t) = _
      rw [after0_3, Rows.out3, iblk_eq]; exact cut3 t _)
    fun i => ⟨t0_0, flush0_3 _, by have h := ((cfg0.win 3).blk t0_0).view.emb_mem_set i; rwa [emb3] at h⟩

/-! ## The host lines after it -/

/-- The valuation the host lines start from: the arrays as the quantiser leaves them, the rest as launched. -/
abbrev U : Valuation τ sig (Elt Ideal) := Pipeline.withArrays spec0 c (V0 m c) fun w => (dats m 0 c).arrAt w cfg0.N

theorem U_wq : U m c (Proc.devRef .tc main_v0_2) = k0_pay4 (F := Ideal) (W m c) :=
  (Pipeline.withArrays_arr _ launch0.win.arr_inj c (V0 m c) _ 3).trans (final3 m c)
theorem U_scale : U m c (Proc.devRef .tc main_v0_1) = k0_pay2 (F := Ideal) (W m c) :=
  (Pipeline.withArrays_arr _ launch0.win.arr_inj c (V0 m c) _ 2).trans (final2 m c)
theorem U_x : U m c (Proc.devRef .tc main_arg0) = X m c :=
  Pipeline.withArrays_of_ne _ c (V0 m c) _ main_arg0 (by exact (by decide : ∀ w, Pipeline.arrRef spec0 w ≠ main_arg0))
theorem U_g : U m c (Proc.devRef .tc main_arg2) = G m c :=
  Pipeline.withArrays_of_ne _ c (V0 m c) _ main_arg2 (by exact (by decide : ∀ w, Pipeline.arrRef spec0 w ≠ main_arg2))

variable {m c}

/-- Every unstaged buffer after the host lines. -/
theorem tail_eq (b : Ref sig .tc) : Pipeline.afterTail₀ cfgs (dats m) 0 (V0 m) [hostOps1] c b
    = StableHlo.after hostOps1 (U m c) (Proc.devRef .tc b) := rfl

variable (m c)

theorem tail_y : Pipeline.afterTail₀ cfgs (dats m) 0 (V0 m) [hostOps1] c main_v2
    = truncf .bf16 (Host.dotGeneral (F := Ideal) (φ₁ := .bf16) (φ₂ := .bf16) dot_S1x3072x3584_S8192x3584_S1x3072x8192_2_1_01_0_n_n none
        (X m c) (k0_pay4 (F := Ideal) (W m c))) bitsLt_bf16_f32 := by
  rw [tail_eq, ← U_wq m c, ← U_x m c]
  after_results

theorem tail_dx : Pipeline.afterTail₀ cfgs (dats m) 0 (V0 m) [hostOps1] c main_v4
    = truncf .bf16 (Host.dotGeneral (F := Ideal) (φ₁ := .bf16) (φ₂ := .bf16) dot_S1x3072x8192_S8192x3584_S1x3072x3584_2_0_01_1_n_n none
        (G m c) (k0_pay4 (F := Ideal) (W m c))) bitsLt_bf16_f32 := by
  rw [tail_eq, ← U_wq m c, ← U_g m c]
  after_results

theorem tail_dw : Pipeline.afterTail₀ cfgs (dats m) 0 (V0 m) [hostOps1] c main_v5
    = Host.dotGeneral (F := Ideal) (φ₁ := .bf16) (φ₂ := .bf16) dot_S1x3072x8192_S1x3072x3584_S8192x3584_01_01_2_2_n_n none
        (G m c) (X m c) := by
  rw [tail_eq, ← U_g m c, ← U_x m c]
  after_results

theorem tail_scale : Pipeline.afterTail₀ cfgs (dats m) 0 (V0 m) [hostOps1] c main_v6
    = shapeCast S8192 (k0_pay2 (F := Ideal) (W m c)) shapeCasts_S8192x1_S8192 := by
  rw [tail_eq, ← U_scale m c]
  after_results
  rfl

/-- THE RUN: the reference terminates with its five results at these expressions and its arguments as launched. -/
theorem run : θ_run defs (onTc (τ := τ) (main (F := Ideal))) ⟨m, fun _ => 0, ρ⟩ (fun r => ∀ c : Dev nD,
      r.2.mem ((c : Thread nD τ).loc main_v2)
        = truncf .bf16 (Host.dotGeneral (F := Ideal) (φ₁ := .bf16) (φ₂ := .bf16) dot_S1x3072x3584_S8192x3584_S1x3072x8192_2_1_01_0_n_n none
            (X m c) (k0_pay4 (F := Ideal) (W m c))) bitsLt_bf16_f32
      ∧ r.2.mem ((c : Thread nD τ).loc main_v4)
        = truncf .bf16 (Host.dotGeneral (F := Ideal) (φ₁ := .bf16) (φ₂ := .bf16) dot_S1x3072x8192_S8192x3584_S1x3072x3584_2_0_01_1_n_n none
            (G m c) (k0_pay4 (F := Ideal) (W m c))) bitsLt_bf16_f32
      ∧ r.2.mem ((c : Thread nD τ).loc main_v5)
        = Host.dotGeneral (F := Ideal) (φ₁ := .bf16) (φ₂ := .bf16) dot_S1x3072x8192_S1x3072x3584_S8192x3584_01_01_2_2_n_n none (G m c) (X m c)
      ∧ r.2.mem ((c : Thread nD τ).loc main_v0_0) = k0_pay3 (F := Ideal) (W m c)
      ∧ r.2.mem ((c : Thread nD τ).loc main_v6) = shapeCast S8192 (k0_pay2 (F := Ideal) (W m c)) shapeCasts_S8192x1_S8192
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨
      ((h c).2 main_v2 (Pipeline.mem_restRefs_of main_v2 (by decide) (by decide))).trans (tail_y m c),
      ((h c).2 main_v4 (Pipeline.mem_restRefs_of main_v4 (by decide) (by decide))).trans (tail_dx m c),
      ((h c).2 main_v5 (Pipeline.mem_restRefs_of main_v5 (by decide) (by decide))).trans (tail_dw m c),
      ((h c).1 1).trans (final1 m c),
      ((h c).2 main_v6 (Pipeline.mem_restRefs_of main_v6 (by decide) (by decide))).trans (tail_scale m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.ReferenceIdeal.Run

end
-- ==== Proof.RefValue.lean ====
/-
  The reference's five results as the model's, over its arguments.
-/
module

public import proofs.«01_k».proof.Proof.RefRun

@[expose] public section

set_option maxRecDepth 16384

noncomputable section

namespace Cert.ReferenceIdeal.Value

open Idealize.ShloMosaic
open Cert.ReferenceIdeal Cert.ReferenceIdeal.Gen Cert.Rows

/-- The matrix that an array with a leading axis of size one is. -/
def mat {t d : ℕ} (x : (⟨3, ![1, t, d]⟩ : Shape).Idx → EReal) : Model.Mat t d := fun i => x (ix3 0 (i 0) (i 1))

/-- The forward contraction at `(s, o)`, for any weights. -/
theorem y_dot (x : FVec Ideal S1x3072x3584 .bf16) (wq : FVec Ideal S8192x3584 .bf16) (s : Fin 3072) (o : Fin 8192) :
    (truncf .bf16 (Host.dotGeneral (F := Ideal) (φ₁ := .bf16) (φ₂ := .bf16) dot_S1x3072x3584_S8192x3584_S1x3072x8192_2_1_01_0_n_n none x wq) bitsLt_bf16_f32
      : FVec Ideal S1x3072x8192 .bf16) (ix3 0 s o) = ∑ k : Fin 3584, x (ix3 0 s k) * wq (ix2 o k) := by
  pointwise

/-- The input gradient's contraction at `(s, k)`, for any weights. -/
theorem dx_dot (g : FVec Ideal S1x3072x8192 .bf16) (wq : FVec Ideal S8192x3584 .bf16) (s : Fin 3072) (k : Fin 3584) :
    (truncf .bf16 (Host.dotGeneral (F := Ideal) (φ₁ := .bf16) (φ₂ := .bf16) dot_S1x3072x8192_S8192x3584_S1x3072x3584_2_0_01_1_n_n none g wq) bitsLt_bf16_f32
      : FVec Ideal S1x3072x3584 .bf16) (ix3 0 s k) = ∑ o : Fin 8192, g (ix3 0 s o) * wq (ix2 o k) := by
  pointwise

/-- The weight gradient's contraction at `(o, k)`. -/
theorem dw_dot (g : FVec Ideal S1x3072x8192 .bf16) (x : FVec Ideal S1x3072x3584 .bf16) (o : Fin 8192) (k : Fin 3584) :
    Host.dotGeneral (F := Ideal) (φ₁ := .bf16) (φ₂ := .bf16) dot_S1x3072x8192_S1x3072x3584_S8192x3584_01_01_2_2_n_n none g x (ix2 o k)
      = ∑ s : Fin 3072, g (ix3 0 s o) * x (ix3 0 s k) := by
  have h : Host.dotGeneral (F := Ideal) (φ₁ := .bf16) (φ₂ := .bf16) dot_S1x3072x8192_S1x3072x3584_S8192x3584_01_01_2_2_n_n none g x (ix2 o k)
      = ∑ b : Fin 1, ∑ s : Fin 3072, g (ix3 b s o) * x (ix3 b s k) := by
    pointwise
  rw [h, Fin.sum_univ_one]

variable (x : FVec Ideal S1x3072x3584 .bf16) (w : FVec Ideal S8192x3584 .f32) (g : FVec Ideal S1x3072x8192 .bf16)

/-- `y` at `(s, o)`. -/
theorem y_apply (s : Fin 3072) (o : Fin 8192) :
    (truncf .bf16 (Host.dotGeneral (F := Ideal) (φ₁ := .bf16) (φ₂ := .bf16) dot_S1x3072x3584_S8192x3584_S1x3072x8192_2_1_01_0_n_n none x (k0_pay4 (F := Ideal) w)) bitsLt_bf16_f32
      : FVec Ideal S1x3072x8192 .bf16) (ix3 0 s o) = Model.fwd Scale.refScale Scale.refInv (mat x) w s o := by
  rw [y_dot]
  exact Finset.sum_congr rfl fun k _ => congrArg (x (ix3 0 s k) * ·) (Rows.weight_apply w o k)

/-- The input gradient at `(s, k)`. -/
theorem dx_apply (s : Fin 3072) (k : Fin 3584) :
    (truncf .bf16 (Host.dotGeneral (F := Ideal) (φ₁ := .bf16) (φ₂ := .bf16) dot_S1x3072x8192_S8192x3584_S1x3072x3584_2_0_01_1_n_n none g (k0_pay4 (F := Ideal) w)) bitsLt_bf16_f32
      : FVec Ideal S1x3072x3584 .bf16) (ix3 0 s k) = Model.gradX Scale.refScale Scale.refInv (mat g) w s k := by
  rw [dx_dot]
  exact Finset.sum_congr rfl fun o _ => congrArg (g (ix3 0 s o) * ·) (Rows.weight_apply w o k)

/-- The weight gradient at `(o, k)`. -/
theorem dw_apply (o : Fin 8192) (k : Fin 3584) :
    Host.dotGeneral (F := Ideal) (φ₁ := .bf16) (φ₂ := .bf16) dot_S1x3072x8192_S1x3072x3584_S8192x3584_01_01_2_2_n_n none g x (ix2 o k) = Model.gradW (mat g) (mat x) o k :=
  dw_dot g x o k

/-- The scale of row `o`. -/
theorem scale_apply (o : Fin 8192) :
    shapeCast S8192 (k0_pay2 (F := Ideal) w) shapeCasts_S8192x1_S8192 (ix1 o) = Model.scales Scale.refScale w o :=
  (shapeCast_uncol _ shapeCasts_S8192x1_S8192 o).trans (Rows.scale_apply w o)

end Cert.ReferenceIdeal.Value

end
-- ==== Proof.Range.lean ====
/-
  What the precondition gives: every row's value lies where the kernel's words of powers of two are right. It is
  infinite when the row holds an infinity, and else below `2^126`.
-/
module

public import proofs.«01_k».proof.Proof.Model
public import proofs.«01_k».proof.Pre_weights_in_range

@[expose] public section

noncomputable section

namespace Cert.Range

open Idealize.ShloMosaic Cert.Rows

/-- The greatest finite f32. -/
def top : EReal := Ideal.ofBits .f32 0x7F7FFFFF#32

/-- The greatest finite f32 is a real number of at most `2^128`. -/
theorem top_le : top ≤ (((2 : ℝ) ^ (128 : ℤ) : ℝ) : EReal) := by
  have hs : ((0x7F7FFFFF#32 : BitVec 32).extractLsb' 31 1 == 1#1) = false := by decide
  have he : ((0x7F7FFFFF#32 : BitVec 32).extractLsb' 23 8).toNat = 254 := by decide
  have hf : ((0x7F7FFFFF#32 : BitVec 32).extractLsb' 0 23).toNat = 8388607 := by decide
  show Ideal.ieee 8 23 0x7F7FFFFF#32 ≤ _
  simp only [Ideal.ieee, hs, he, hf]
  norm_num
  try exact_mod_cast (by norm_num : (_ : ℝ) ≤ _)

/-- The f32 nearest `1/448` is a positive real number below `1/4`. -/
theorem recip : ∃ q : ℝ, Ideal.ofBits .f32 0x3B124925#32 = (q : EReal) ∧ 0 < q ∧ q < 1 / 4 := by
  have hs : ((0x3B124925#32 : BitVec 32).extractLsb' 31 1 == 1#1) = false := by decide
  have he : ((0x3B124925#32 : BitVec 32).extractLsb' 23 8).toNat = 118 := by decide
  have hf : ((0x3B124925#32 : BitVec 32).extractLsb' 0 23).toNat = 1198373 := by decide
  refine ⟨(2 ^ 23 + 1198373) * 2 ^ (118 - 127 - 23 : ℤ), ?_, by positivity, by norm_num⟩
  show Ideal.ieee 8 23 0x3B124925#32 = _
  simp only [Ideal.ieee, hs, he, hf]
  norm_num

/-- The initial value of a row's maximum is the least of all values. -/
theorem start : Ideal.ofBits .f32 0xFF800000#32 = ⊥ := by
  have hs : ((0xFF800000#32 : BitVec 32).extractLsb' 31 1 == 1#1) = true := by decide
  have he : ((0xFF800000#32 : BitVec 32).extractLsb' 23 8).toNat = 255 := by decide
  have hf : ((0xFF800000#32 : BitVec 32).extractLsb' 0 23).toNat = 0 := by decide
  show Ideal.ieee 8 23 0xFF800000#32 = _
  simp [Ideal.ieee, hs, he, hf]

/-- A row whose elements are each of finite f32 magnitude or infinite has a value below `2^126`, or infinite. -/
theorem rowVal_range {d : ℕ} (f : Fin d → EReal) (h : ∀ k, max (f k) (-f k) ≤ top ∨ max (f k) (-f k) = ⊤) :
    rowVal f < Scale.word 253#32 ∨ rowVal f = ⊤ := by
  obtain ⟨q, hq, hq0, hq1⟩ := recip
  unfold rowVal
  rw [hq, start]
  by_cases ht : ∃ k, max (f k) (-f k) = ⊤
  · obtain ⟨k, hk⟩ := ht
    right
    have hm : (Finset.univ : Finset (Fin d)).fold max ⊥ (fun k => max (f k) (-f k)) = ⊤ :=
      top_le_iff.1 (Finset.le_fold_max _ |>.2 (.inr ⟨k, Finset.mem_univ k, hk.ge⟩))
    rw [hm]
    exact EReal.top_mul_of_pos (by exact_mod_cast hq0)
  · left
    have hm : (Finset.univ : Finset (Fin d)).fold max ⊥ (fun k => max (f k) (-f k)) ≤ (((2 : ℝ) ^ (128 : ℤ) : ℝ) : EReal) :=
      (Finset.fold_max_le _).2 ⟨bot_le, fun k _ => ((h k).resolve_right fun hk => ht ⟨k, hk⟩).trans top_le⟩
    have hw : Scale.word 253#32 = (((2 : ℝ) ^ ((253 : ℕ) - 127 : ℤ) : ℝ) : EReal) := Scale.word_normal 253 (by norm_num) (by norm_num)
    rw [hw]
    refine lt_of_le_of_lt (mul_le_mul_of_nonneg_right hm (by exact_mod_cast hq0.le)) ?_
    rw [← EReal.coe_mul, EReal.coe_lt_coe_iff]
    calc (2 : ℝ) ^ (128 : ℤ) * q < 2 ^ (128 : ℤ) * (1 / 4) := by gcongr
      _ = 2 ^ ((253 : ℕ) - 127 : ℤ) := by norm_num

/-- One element of the precondition: the magnitude is at most the greatest finite f32, or infinite. -/
theorem element (a : EReal) (h : IntOp.ori (Ideal.cmp .ole a top) (Ideal.cmp .oeq a (Ideal.ofBits .f32 0x7F800000#32)) = 1#1) :
    a ≤ top ∨ a = ⊤ := by
  rw [Scale.ofBits_eq_word 255 0x7F800000#32, show Scale.word (BitVec.ofNat 32 255) = ⊤ from Scale.word_top] at h
  by_contra hc
  rw [not_or] at hc
  simp [Ideal.cmp, hc.1, hc.2, IntOp.ori] at h

/-- Under the precondition the value of every row is below `2^126`, or infinite. -/
theorem val_range [Cert.Pre_weights_in_range.Facts] (x : FVec Ideal Pre_weights_in_range.S1x3072x3584 .bf16)
    (w : FVec Ideal Pre_weights_in_range.S8192x3584 .f32) (g : FVec Ideal Pre_weights_in_range.S1x3072x8192 .bf16)
    (h : Pre_weights_in_range.fn (F := Ideal) x w g = fun _ => 1#1) (o : Fin 8192) :
    Model.val (n := 8192) (d := 3584) w o < Scale.word 253#32 ∨ Model.val (n := 8192) (d := 3584) w o = ⊤ := by
  refine rowVal_range _ fun k => element _ ?_
  exact congrFun h (ix2 o k)

end Cert.Range

end
-- ==== Proof.Equation.lean ====
/-
  The equation: where every row's value is in range, the kernel's five results are the reference's.
-/
module

public import proofs.«01_k».proof.Proof.KernelValue
public import proofs.«01_k».proof.Proof.RefValue
public import proofs.«01_k».proof.Proof.Range

@[expose] public section

set_option maxRecDepth 16384

noncomputable section

namespace Cert.Equation

open Idealize.ShloMosaic Idealize.ShloMosaic.TcCoe Cert.Rows

/-! ## The model at the kernel's scale and at the reference's -/

section model

variable {n d t : ℕ} (w : Model.Mat n d) (h : ∀ o, Model.val w o < Scale.word 253#32 ∨ Model.val w o = ⊤)
include h

/-- The scales agree, -/
theorem scales_eq (o : Fin n) : Model.scales Scale.scale w o = Model.scales Scale.refScale w o := (Scale.scale_inv_eq _ (h o)).1

/-- and so do the codes, -/
theorem codes_eq (o : Fin n) (k : Fin d) : Model.codes Scale.inv w o k = Model.codes Scale.refInv w o k :=
  congrArg (code (w (ix2 o k))) (Scale.scale_inv_eq _ (h o)).2

/-- the rounded weights, -/
theorem weights_eq (o : Fin n) (k : Fin d) :
    Model.weights Scale.scale Scale.inv w o k = Model.weights Scale.refScale Scale.refInv w o k :=
  congrArg₂ (· * ·) (codes_eq w h o k) (scales_eq w h o)

/-- the forward product -/
theorem fwd_eq (x : Model.Mat t d) (s : Fin t) (o : Fin n) :
    Model.fwd Scale.scale Scale.inv x w s o = Model.fwd Scale.refScale Scale.refInv x w s o :=
  Finset.sum_congr rfl fun k _ => congrArg (x (ix2 s k) * ·) (weights_eq w h o k)

/-- and the gradient by the input. -/
theorem gradX_eq (g : Model.Mat t n) (s : Fin t) (k : Fin d) :
    Model.gradX Scale.scale Scale.inv g w s k = Model.gradX Scale.refScale Scale.refInv g w s k :=
  Finset.sum_congr rfl fun o _ => congrArg (g (ix2 s o) * ·) (weights_eq w h o k)

end model

/-! ## The five results -/

section results

open Cert.KernelIdeal Cert.KernelIdeal.Gen

variable (m : (ℓ : Loc nD τ sig) → Buf (Elt Ideal) ℓ) (ρ : Dev nD → PrngReg) (c : Dev nD)

/-- The kernel's activations, -/
abbrev X : FVec Ideal S1x3072x3584 .bf16 := m ((c : Thread nD τ).loc main_arg0)
/-- weights, -/
abbrev W : FVec Ideal S8192x3584 .f32 := m ((c : Thread nD τ).loc main_arg1)
/-- and gradient coming in, as launched. -/
abbrev G : FVec Ideal S1x3072x8192 .bf16 := m ((c : Thread nD τ).loc main_arg2)

variable (h : ∀ o, Model.val (Value.W m c) o < Scale.word 253#32 ∨ Model.val (Value.W m c) o = ⊤)

/-- The weight gradient. -/
theorem dw_eq : Host.dotGeneral (F := Ideal) (φ₁ := .bf16) (φ₂ := .bf16)
      ReferenceIdeal.dot_S1x3072x8192_S1x3072x3584_S8192x3584_01_01_2_2_n_n none (G m c) (X m c)
    = W4 m ρ c (Proc.devRef .tc main_v2_1) := by
  funext i
  obtain ⟨o, k, rfl⟩ : ∃ (o : Fin 8192) (k : Fin 3584), i = ix2 o k := ⟨i 0, i 1, eq_ix2 i⟩
  exact (ReferenceIdeal.Value.dw_apply (X m c) (G m c) o k).trans (Value.dw_apply m ρ c o k).symm

include h

/-- The output. -/
theorem y_eq : truncf .bf16 (Host.dotGeneral (F := Ideal) (φ₁ := .bf16) (φ₂ := .bf16)
      ReferenceIdeal.dot_S1x3072x3584_S8192x3584_S1x3072x8192_2_1_01_0_n_n none
      (X m c) (ReferenceIdeal.Gen.k0_pay4 (F := Ideal) (W m c))) ReferenceIdeal.Gen.bitsLt_bf16_f32
    = W4 m ρ c (Proc.devRef .tc main_v4) := by
  funext i
  obtain ⟨b, s, o, rfl⟩ : ∃ (b : Fin 1) (s : Fin 3072) (o : Fin 8192), i = ix3 b s o := ⟨i 0, i 1, i 2, eq_ix3 i⟩
  obtain rfl : b = 0 := Subsingleton.elim b 0
  exact (ReferenceIdeal.Value.y_apply (X m c) (W m c) s o).trans
    ((fwd_eq (Value.W m c) h (Value.X m c) s o).symm.trans (Value.y_apply m ρ c s o).symm)

/-- The input gradient. -/
theorem dx_eq : truncf .bf16 (Host.dotGeneral (F := Ideal) (φ₁ := .bf16) (φ₂ := .bf16)
      ReferenceIdeal.dot_S1x3072x8192_S8192x3584_S1x3072x3584_2_0_01_1_n_n none
      (G m c) (ReferenceIdeal.Gen.k0_pay4 (F := Ideal) (W m c))) ReferenceIdeal.Gen.bitsLt_bf16_f32
    = W4 m ρ c (Proc.devRef .tc main_v5) := by
  funext i
  obtain ⟨b, s, k, rfl⟩ : ∃ (b : Fin 1) (s : Fin 3072) (k : Fin 3584), i = ix3 b s k := ⟨i 0, i 1, i 2, eq_ix3 i⟩
  obtain rfl : b = 0 := Subsingleton.elim b 0
  exact (ReferenceIdeal.Value.dx_apply (W m c) (G m c) s k).trans
    ((gradX_eq (Value.W m c) h (Value.G m c) s k).symm.trans (Value.dx_apply m ρ c s k).symm)

/-- The codes. -/
theorem code_eq : ReferenceIdeal.Gen.k0_pay3 (F := Ideal) (W m c) = W4 m ρ c (Proc.devRef .tc main_v2_2) := by
  funext i
  obtain ⟨o, k, rfl⟩ : ∃ (o : Fin 8192) (k : Fin 3584), i = ix2 o k := ⟨i 0, i 1, eq_ix2 i⟩
  exact (ReferenceIdeal.Rows.code_apply (W m c) o k).trans
    ((codes_eq (Value.W m c) h o k).symm.trans (Value.codes_apply m ρ c o k).symm)

/-- The scales. -/
theorem scale_eq : shapeCast ReferenceIdeal.S8192 (ReferenceIdeal.Gen.k0_pay2 (F := Ideal) (W m c))
      ReferenceIdeal.Gen.shapeCasts_S8192x1_S8192
    = W4 m ρ c (Proc.devRef .tc main_v6) := by
  funext i
  obtain ⟨o, rfl⟩ : ∃ o : Fin 8192, i = ix1 o := ⟨i 0, eq_ix1 i⟩
  exact (ReferenceIdeal.Value.scale_apply (W m c) o).trans
    ((scales_eq (Value.W m c) h o).symm.trans (Value.scale_apply m ρ c o).symm)

end results

end Cert.Equation

end
-- ==== Proof.lean ====
/-
  The claims: both programs run, and the kernel's five results are the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Equation

@[expose] public section

set_option maxRecDepth 16384

noncomputable section

namespace Cert.Proof

open Idealize.ShloMosaic Idealize.ShloMosaic.TcCoe

/-- The precondition's one shape fact. -/
theorem pre_facts : Cert.Pre_weights_in_range.Facts := ⟨by decide⟩

attribute [local instance] Cert.Kernel.Gen.facts Cert.KernelIdeal.Gen.facts Cert.ReferenceIdeal.Gen.facts pre_facts

/-- The kernel terminates with its results at the arrays the run leaves and its arguments as launched. -/
theorem kernel_run (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩
      (fun r => ∀ c : Dev KernelIdeal.nD,
        r.2.mem ((c : Thread KernelIdeal.nD KernelIdeal.τ).loc KernelIdeal.main_v4) = KernelIdeal.Gen.W4 m ρ c (Proc.devRef .tc KernelIdeal.main_v4)
        ∧ r.2.mem ((c : Thread KernelIdeal.nD KernelIdeal.τ).loc KernelIdeal.main_v5) = KernelIdeal.Gen.W4 m ρ c (Proc.devRef .tc KernelIdeal.main_v5)
        ∧ r.2.mem ((c : Thread KernelIdeal.nD KernelIdeal.τ).loc KernelIdeal.main_v2_1) = KernelIdeal.Gen.W4 m ρ c (Proc.devRef .tc KernelIdeal.main_v2_1)
        ∧ r.2.mem ((c : Thread KernelIdeal.nD KernelIdeal.τ).loc KernelIdeal.main_v2_2) = KernelIdeal.Gen.W4 m ρ c (Proc.devRef .tc KernelIdeal.main_v2_2)
        ∧ r.2.mem ((c : Thread KernelIdeal.nD KernelIdeal.τ).loc KernelIdeal.main_v6) = KernelIdeal.Gen.W4 m ρ c (Proc.devRef .tc KernelIdeal.main_v6)
        ∧ r.2.mem ((c : Thread KernelIdeal.nD KernelIdeal.τ).loc KernelIdeal.main_arg0) = m ((c : Thread KernelIdeal.nD KernelIdeal.τ).loc KernelIdeal.main_arg0)
        ∧ r.2.mem ((c : Thread KernelIdeal.nD KernelIdeal.τ).loc KernelIdeal.main_arg1) = m ((c : Thread KernelIdeal.nD KernelIdeal.τ).loc KernelIdeal.main_arg1)
        ∧ r.2.mem ((c : Thread KernelIdeal.nD KernelIdeal.τ).loc KernelIdeal.main_arg2) = m ((c : Thread KernelIdeal.nD KernelIdeal.τ).loc KernelIdeal.main_arg2)) :=
  (θ_run KernelIdeal.defs _ _).mono (fun _ h c => ⟨
      h c _ (KernelIdeal.Gen.mem_uc KernelIdeal.main_v4 (by decide)),
      h c _ (KernelIdeal.Gen.mem_uc KernelIdeal.main_v5 (by decide)),
      h c _ (KernelIdeal.Gen.mem_uc KernelIdeal.main_v2_1 (by decide)),
      h c _ (KernelIdeal.Gen.mem_uc KernelIdeal.main_v2_2 (by decide)),
      h c _ (KernelIdeal.Gen.mem_uc KernelIdeal.main_v6 (by decide)),
      (h c _ (KernelIdeal.Gen.mem_uc KernelIdeal.main_arg0 (by decide))).trans (KernelIdeal.Gen.W4_main_arg0 m ρ c),
      (h c _ (KernelIdeal.Gen.mem_uc KernelIdeal.main_arg1 (by decide))).trans (KernelIdeal.Gen.W4_main_arg1 m ρ c),
      (h c _ (KernelIdeal.Gen.mem_uc KernelIdeal.main_arg2 (by decide))).trans (KernelIdeal.Gen.W4_main_arg2 m ρ c)⟩)
    (KernelIdeal.Run.run m ρ)

/-- The kernel and the reference end with equal results. -/
theorem algebraic : algebraic_KernelIdeal_ReferenceIdeal_pre_weights_in_range := by
  intro m g m' g' hpre hargs
  refine ⟨fun c => KernelIdeal.Gen.W4 m g c (Proc.devRef .tc KernelIdeal.main_v4),
    fun c => KernelIdeal.Gen.W4 m g c (Proc.devRef .tc KernelIdeal.main_v5),
    fun c => KernelIdeal.Gen.W4 m g c (Proc.devRef .tc KernelIdeal.main_v2_1),
    fun c => KernelIdeal.Gen.W4 m g c (Proc.devRef .tc KernelIdeal.main_v2_2),
    fun c => KernelIdeal.Gen.W4 m g c (Proc.devRef .tc KernelIdeal.main_v6), kernel_run m g, ?_⟩
  refine (θ_run ReferenceIdeal.defs _ _).mono (fun r h c => ?_) (ReferenceIdeal.Run.run m' g')
  obtain ⟨hy, hdx, hdw, hco, hsc, h0, h1, h2⟩ := h c
  obtain ⟨ex, ew, eg⟩ := hargs c
  have ex' : ReferenceIdeal.Run.X m' c = Equation.X m c := ex
  have ew' : ReferenceIdeal.Run.W m' c = Equation.W m c := ew
  have eg' : ReferenceIdeal.Run.G m' c = Equation.G m c := eg
  rw [ex', ew'] at hy
  rw [eg', ew'] at hdx
  rw [eg', ex'] at hdw
  rw [ew'] at hco hsc
  have hr := Range.val_range _ _ _ (hpre c)
  exact ⟨hy.trans (Equation.y_eq m g c hr), hdx.trans (Equation.dx_eq m g c hr), hdw.trans (Equation.dw_eq m g c),
    hco.trans (Equation.code_eq m g c hr), hsc.trans (Equation.scale_eq m g c hr), h0, h1, h2⟩

/-- Every claim of the certificate. -/
theorem claim : Cert.Claim :=
  ⟨Cert.Kernel.Gen.facts, Cert.KernelIdeal.Gen.facts, Cert.ReferenceIdeal.Gen.facts, pre_facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial, algebraic⟩

end Cert.Proof

end
